-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sound [hPre_sound : Cert.Pre_sound.Facts] (m : (ℓ : Loc Cert.KernelIdeal.nD Cert.KernelIdeal.τ Cert.KernelIdeal.sig) → Buf (Elt Ideal) ℓ) : Prop :=
  ∀ c : Dev Cert.KernelIdeal.nD,
    (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound [hPre_sound : Cert.Pre_sound.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_sound [hKernelIdeal : Cert.KernelIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sound m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_sound [hReferenceIdeal : Cert.ReferenceIdeal.Facts] [hPre_sound : Cert.Pre_sound.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_sound [hKernelIdeal : Cert.KernelIdeal.Facts] [hReferenceIdeal : Cert.ReferenceIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sound m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_sound : Cert.Pre_sound.Facts),
    quiescent_Kernel (hKernel := hKernel)
    ∧ quiescent_KernelIdeal (hKernelIdeal := hKernelIdeal)
    ∧ quiescent_KernelIdeal_pre_sound (hKernelIdeal := hKernelIdeal) (hPre_sound := hPre_sound)
    ∧ quiescent_ReferenceIdeal (hReferenceIdeal := hReferenceIdeal)
    ∧ quiescent_ReferenceIdeal_pre_sound (hReferenceIdeal := hReferenceIdeal) (hPre_sound := hPre_sound)
    ∧ preserves_Kernel_KernelIdeal
    ∧ algebraic_KernelIdeal_ReferenceIdeal_pre_sound (hKernelIdeal := hKernelIdeal) (hReferenceIdeal := hReferenceIdeal) (hPre_sound := hPre_sound)
-- ==== Pre_sound.lean ====
abbrev S1024x3 : Shape := ⟨2, ![1024, 3]⟩
abbrev S3 : Shape := ⟨1, ![3]⟩
abbrev S3x64 : Shape := ⟨2, ![3, 64]⟩
abbrev S64 : Shape := ⟨1, ![64]⟩
abbrev S64x1 : Shape := ⟨2, ![64, 1]⟩
abbrev S1 : Shape := ⟨1, ![1]⟩
abbrev S6x64 : Shape := ⟨2, ![6, 64]⟩
abbrev S64x8 : Shape := ⟨2, ![64, 8]⟩
abbrev S8 : Shape := ⟨1, ![8]⟩
abbrev S8x6x64 : Shape := ⟨3, ![8, 6, 64]⟩
abbrev S8x64 : Shape := ⟨2, ![8, 64]⟩
abbrev S8x64x4 : Shape := ⟨3, ![8, 64, 4]⟩
abbrev S8x4 : Shape := ⟨2, ![8, 4]⟩
abbrev S_ : Shape := ⟨0, ![]⟩
abbrev S1024 : Shape := ⟨1, ![1024]⟩
abbrev S1024x1 : Shape := ⟨2, ![1024, 1]⟩
abbrev S128 : Shape := ⟨1, ![128]⟩
abbrev S1024x1x3 : Shape := ⟨3, ![1024, 1, 3]⟩
abbrev S1x128x1 : Shape := ⟨3, ![1, 128, 1]⟩
abbrev S1024x128x3 : Shape := ⟨3, ![1024, 128, 3]⟩
abbrev S1024x128x6 : Shape := ⟨3, ![1024, 128, 6]⟩
abbrev S1024x128x64 : Shape := ⟨3, ![1024, 128, 64]⟩
abbrev S1x1x64 : Shape := ⟨3, ![1, 1, 64]⟩
abbrev S1024x128x1 : Shape := ⟨3, ![1024, 128, 1]⟩
abbrev S1x1x1 : Shape := ⟨3, ![1, 1, 1]⟩
abbrev S1024x128 : Shape := ⟨2, ![1024, 128]⟩
abbrev S1024x128x8x64 : Shape := ⟨4, ![1024, 128, 8, 64]⟩
abbrev S1x1x8x64 : Shape := ⟨4, ![1, 1, 8, 64]⟩
abbrev S8x4x1024x128 : Shape := ⟨4, ![8, 4, 1024, 128]⟩
abbrev S1024x128x8x4 : Shape := ⟨4, ![1024, 128, 8, 4]⟩
abbrev S1x1x8x4 : Shape := ⟨4, ![1, 1, 8, 4]⟩
abbrev S1024x128x8x1 : Shape := ⟨4, ![1024, 128, 8, 1]⟩
abbrev S1024x128x8 : Shape := ⟨3, ![1024, 128, 8]⟩
abbrev S1x1x8 : Shape := ⟨3, ![1, 1, 8]⟩
abbrev S1024x128x1x8 : Shape := ⟨4, ![1024, 128, 1, 8]⟩
abbrev S1024x128x8x8 : Shape := ⟨4, ![1024, 128, 8, 8]⟩
abbrev S8x1x1 : Shape := ⟨3, ![8, 1, 1]⟩
abbrev S8x1x8 : Shape := ⟨3, ![8, 1, 8]⟩
abbrev S1x8x1 : Shape := ⟨3, ![1, 8, 1]⟩
abbrev S1x8x8 : Shape := ⟨3, ![1, 8, 8]⟩
abbrev S8x8x8 : Shape := ⟨3, ![8, 8, 8]⟩
abbrev S1024x128x1x8x8 : Shape := ⟨5, ![1024, 128, 1, 8, 8]⟩
abbrev S1x1x8x8x8 : Shape := ⟨5, ![1, 1, 8, 8, 8]⟩
abbrev S1024x128x8x8x8 : Shape := ⟨5, ![1024, 128, 8, 8, 8]⟩

class Facts : Prop where
  bcast_S_S1024x3 : S_.BroadcastsInDim S1024x3 (![] : Fin 0 → Fin S1024x3.rank)
  reducesTo_S1024x3_S_d0_1 : S1024x3.ReducesTo [0, 1] S_
  h_S_ : 0 < S_.numel
  bcast_S_S3 : S_.BroadcastsInDim S3 (![] : Fin 0 → Fin S3.rank)
  reducesTo_S3_S_d0 : S3.ReducesTo [0] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S6x64 : S_.BroadcastsInDim S6x64 (![] : Fin 0 → Fin S6x64.rank)
  reducesTo_S6x64_S_d0_1 : S6x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S8x6x64 : S_.BroadcastsInDim S8x6x64 (![] : Fin 0 → Fin S8x6x64.rank)
  reducesTo_S8x6x64_S_d0_1_2 : S8x6x64.ReducesTo [0, 1, 2] S_
  bcast_S_S8x64 : S_.BroadcastsInDim S8x64 (![] : Fin 0 → Fin S8x64.rank)
  reducesTo_S8x64_S_d0_1 : S8x64.ReducesTo [0, 1] S_
  bcast_S_S8x64x4 : S_.BroadcastsInDim S8x64x4 (![] : Fin 0 → Fin S8x64x4.rank)
  reducesTo_S8x64x4_S_d0_1_2 : S8x64x4.ReducesTo [0, 1, 2] S_
  bcast_S_S8x4 : S_.BroadcastsInDim S8x4 (![] : Fin 0 → Fin S8x4.rank)
  reducesTo_S8x4_S_d0_1 : S8x4.ReducesTo [0, 1] S_
  reducesTo_S1024x3_S1024_d1 : S1024x3.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x3_0_1 : S1024x1.BroadcastsInDim S1024x3 (![0, 1] : Fin 2 → Fin S1024x3.rank)
  bcast_S_S128 : S_.BroadcastsInDim S128 (![] : Fin 0 → Fin S128.rank)
  bcast_S1024x3_S1024x1x3_0_2 : S1024x3.BroadcastsInDim S1024x1x3 (![0, 2] : Fin 2 → Fin S1024x1x3.rank)
  bcast_S128_S1x128x1_1 : S128.BroadcastsInDim S1x128x1 (![1] : Fin 1 → Fin S1x128x1.rank)
  bcast_S1024x1x3_S1024x128x3_0_1_2 : S1024x1x3.BroadcastsInDim S1024x128x3 (![0, 1, 2] : Fin 3 → Fin S1024x128x3.rank)
  bcast_S1x128x1_S1024x128x3_0_1_2 : S1x128x1.BroadcastsInDim S1024x128x3 (![0, 1, 2] : Fin 3 → Fin S1024x128x3.rank)
  concatenates_S1024x128x3_S1024x128x3_S1024x128x6_d2 : Shape.Concatenates [S1024x128x3, S1024x128x3] S1024x128x6 2
  bcast_S64_S1x1x64_2 : S64.BroadcastsInDim S1x1x64 (![2] : Fin 1 → Fin S1x1x64.rank)
  bcast_S1x1x64_S1024x128x64_0_1_2 : S1x1x64.BroadcastsInDim S1024x128x64 (![0, 1, 2] : Fin 3 → Fin S1024x128x64.rank)
  bcast_S_S1024x128x64 : S_.BroadcastsInDim S1024x128x64 (![] : Fin 0 → Fin S1024x128x64.rank)
  bcast_S1_S1x1x1_2 : S1.BroadcastsInDim S1x1x1 (![2] : Fin 1 → Fin S1x1x1.rank)
  bcast_S1x1x1_S1024x128x1_0_1_2 : S1x1x1.BroadcastsInDim S1024x128x1 (![0, 1, 2] : Fin 3 → Fin S1024x128x1.rank)
  shapeCasts_S1024x128x1_S1024x128 : S1024x128x1.ShapeCasts S1024x128
  bcast_S_S1024x128 : S_.BroadcastsInDim S1024x128 (![] : Fin 0 → Fin S1024x128.rank)
  reducesTo_S1024x128_S_d0_1 : S1024x128.ReducesTo [0, 1] S_
  bcast_S8x64_S1x1x8x64_2_3 : S8x64.BroadcastsInDim S1x1x8x64 (![2, 3] : Fin 2 → Fin S1x1x8x64.rank)
  bcast_S1x1x8x64_S1024x128x8x64_0_1_2_3 : S1x1x8x64.BroadcastsInDim S1024x128x8x64 (![0, 1, 2, 3] : Fin 4 → Fin S1024x128x8x64.rank)
  bcast_S_S1024x128x8x64 : S_.BroadcastsInDim S1024x128x8x64 (![] : Fin 0 → Fin S1024x128x8x64.rank)
  transposes_S8x4x1024x128_S1024x128x8x4_2_3_0_1 : S8x4x1024x128.Transposes [2, 3, 0, 1] S1024x128x8x4
  bcast_S8x4_S1x1x8x4_2_3 : S8x4.BroadcastsInDim S1x1x8x4 (![2, 3] : Fin 2 → Fin S1x1x8x4.rank)
  bcast_S1x1x8x4_S1024x128x8x4_0_1_2_3 : S1x1x8x4.BroadcastsInDim S1024x128x8x4 (![0, 1, 2, 3] : Fin 4 → Fin S1024x128x8x4.rank)
  slices_S1024x128x8x4_S1024x128x8x1_0_0_0_3 : S1024x128x8x4.Slices ![0, 0, 0, 3] S1024x128x8x1
  shapeCasts_S1024x128x8x1_S1024x128x8 : S1024x128x8x1.ShapeCasts S1024x128x8
  bcast_S_S1024x128x8 : S_.BroadcastsInDim S1024x128x8 (![] : Fin 0 → Fin S1024x128x8.rank)
  reducesTo_S1024x128x8_S_d0_1_2 : S1024x128x8.ReducesTo [0, 1, 2] S_
  bcast_S8_S1x1x8_2 : S8.BroadcastsInDim S1x1x8 (![2] : Fin 1 → Fin S1x1x8.rank)
  bcast_S1x1x8_S1024x128x8_0_1_2 : S1x1x8.BroadcastsInDim S1024x128x8 (![0, 1, 2] : Fin 3 → Fin S1024x128x8.rank)
  bcast_S1024x128x8_S1024x128x8x1_0_1_2 : S1024x128x8.BroadcastsInDim S1024x128x8x1 (![0, 1, 2] : Fin 3 → Fin S1024x128x8x1.rank)
  bcast_S1024x128x8_S1024x128x1x8_0_1_3 : S1024x128x8.BroadcastsInDim S1024x128x1x8 (![0, 1, 3] : Fin 3 → Fin S1024x128x1x8.rank)
  bcast_S1024x128x8x1_S1024x128x8x8_0_1_2_3 : S1024x128x8x1.BroadcastsInDim S1024x128x8x8 (![0, 1, 2, 3] : Fin 4 → Fin S1024x128x8x8.rank)
  bcast_S1024x128x1x8_S1024x128x8x8_0_1_2_3 : S1024x128x1x8.BroadcastsInDim S1024x128x8x8 (![0, 1, 2, 3] : Fin 4 → Fin S1024x128x8x8.rank)
  bcast_S8_S8x1x1_0 : S8.BroadcastsInDim S8x1x1 (![0] : Fin 1 → Fin S8x1x1.rank)
  bcast_S1x1x8_S8x1x8_0_1_2 : S1x1x8.BroadcastsInDim S8x1x8 (![0, 1, 2] : Fin 3 → Fin S8x1x8.rank)
  bcast_S8x1x1_S8x1x8_0_1_2 : S8x1x1.BroadcastsInDim S8x1x8 (![0, 1, 2] : Fin 3 → Fin S8x1x8.rank)
  bcast_S8_S1x8x1_1 : S8.BroadcastsInDim S1x8x1 (![1] : Fin 1 → Fin S1x8x1.rank)
  bcast_S1x1x8_S1x8x8_0_1_2 : S1x1x8.BroadcastsInDim S1x8x8 (![0, 1, 2] : Fin 3 → Fin S1x8x8.rank)
  bcast_S1x8x1_S1x8x8_0_1_2 : S1x8x1.BroadcastsInDim S1x8x8 (![0, 1, 2] : Fin 3 → Fin S1x8x8.rank)
  bcast_S8x1x8_S8x8x8_0_1_2 : S8x1x8.BroadcastsInDim S8x8x8 (![0, 1, 2] : Fin 3 → Fin S8x8x8.rank)
  bcast_S1x8x8_S8x8x8_0_1_2 : S1x8x8.BroadcastsInDim S8x8x8 (![0, 1, 2] : Fin 3 → Fin S8x8x8.rank)
  bcast_S1024x128x8x8_S1024x128x1x8x8_0_1_3_4 : S1024x128x8x8.BroadcastsInDim S1024x128x1x8x8 (![0, 1, 3, 4] : Fin 4 → Fin S1024x128x1x8x8.rank)
  bcast_S8x8x8_S1x1x8x8x8_2_3_4 : S8x8x8.BroadcastsInDim S1x1x8x8x8 (![2, 3, 4] : Fin 3 → Fin S1x1x8x8x8.rank)
  bcast_S1024x128x1x8x8_S1024x128x8x8x8_0_1_2_3_4 : S1024x128x1x8x8.BroadcastsInDim S1024x128x8x8x8 (![0, 1, 2, 3, 4] : Fin 5 → Fin S1024x128x8x8x8.rank)
  bcast_S1x1x8x8x8_S1024x128x8x8x8_0_1_2_3_4 : S1x1x8x8x8.BroadcastsInDim S1024x128x8x8x8 (![0, 1, 2, 3, 4] : Fin 5 → Fin S1024x128x8x8x8.rank)
  reducesTo_S1024x128x8x8x8_S1024x128x8x8_d4 : S1024x128x8x8x8.ReducesTo [4] S1024x128x8x8
  reducesTo_S1024x128x8x8_S1024x128_d2_3 : S1024x128x8x8.ReducesTo [2, 3] S1024x128
  dot_S1024x128x3_S3x64_S1024x128x64_2_0_01_1_n_n_wf : DotDims.WF S1024x128x3 S3x64 S1024x128x64 [2] [0] [0, 1] [1] [] []
  dot_S1024x128x64_S64x1_S1024x128x1_2_0_01_1_n_n_wf : DotDims.WF S1024x128x64 S64x1 S1024x128x1 [2] [0] [0, 1] [1] [] []
  dot_S1024x128x6_S8x6x64_S1024x128x8x64_2_1_01_02_n_n_wf : DotDims.WF S1024x128x6 S8x6x64 S1024x128x8x64 [2] [1] [0, 1] [0, 2] [] []
  dot_S8x64x4_S1024x128x8x64_S8x4x1024x128_1_3_2_01_0_2_wf : DotDims.WF S8x64x4 S1024x128x8x64 S8x4x1024x128 [1] [3] [2] [0, 1] [0] [2]
  dot_S1024x128x6_S6x64_S1024x128x64_2_0_01_1_n_n_wf : DotDims.WF S1024x128x6 S6x64 S1024x128x64 [2] [0] [0, 1] [1] [] []
  dot_S1024x128x64_S64x8_S1024x128x8_2_0_01_1_n_n_wf : DotDims.WF S1024x128x64 S64x8 S1024x128x8 [2] [0] [0, 1] [1] [] []

variable [Facts]

def dot_S1024x128x3_S3x64_S1024x128x64_2_0_01_1_n_n : DotDims S1024x128x3 S3x64 S1024x128x64 where
  lhsContracting := [2]
  rhsContracting := [0]
  lhsNonContracting := [0, 1]
  rhsNonContracting := [1]
  lhsBatch := []
  rhsBatch := []
  wf := dot_S1024x128x3_S3x64_S1024x128x64_2_0_01_1_n_n_wf
def dot_S1024x128x64_S64x1_S1024x128x1_2_0_01_1_n_n : DotDims S1024x128x64 S64x1 S1024x128x1 where
  lhsContracting := [2]
  rhsContracting := [0]
  lhsNonContracting := [0, 1]
  rhsNonContracting := [1]
  lhsBatch := []
  rhsBatch := []
  wf := dot_S1024x128x64_S64x1_S1024x128x1_2_0_01_1_n_n_wf
def dot_S1024x128x6_S8x6x64_S1024x128x8x64_2_1_01_02_n_n : DotDims S1024x128x6 S8x6x64 S1024x128x8x64 where
  lhsContracting := [2]
  rhsContracting := [1]
  lhsNonContracting := [0, 1]
  rhsNonContracting := [0, 2]
  lhsBatch := []
  rhsBatch := []
  wf := dot_S1024x128x6_S8x6x64_S1024x128x8x64_2_1_01_02_n_n_wf
def dot_S8x64x4_S1024x128x8x64_S8x4x1024x128_1_3_2_01_0_2 : DotDims S8x64x4 S1024x128x8x64 S8x4x1024x128 where
  lhsContracting := [1]
  rhsContracting := [3]
  lhsNonContracting := [2]
  rhsNonContracting := [0, 1]
  lhsBatch := [0]
  rhsBatch := [2]
  wf := dot_S8x64x4_S1024x128x8x64_S8x4x1024x128_1_3_2_01_0_2_wf
def dot_S1024x128x6_S6x64_S1024x128x64_2_0_01_1_n_n : DotDims S1024x128x6 S6x64 S1024x128x64 where
  lhsContracting := [2]
  rhsContracting := [0]
  lhsNonContracting := [0, 1]
  rhsNonContracting := [1]
  lhsBatch := []
  rhsBatch := []
  wf := dot_S1024x128x6_S6x64_S1024x128x64_2_0_01_1_n_n_wf
def dot_S1024x128x64_S64x8_S1024x128x8_2_0_01_1_n_n : DotDims S1024x128x64 S64x8 S1024x128x8 where
  lhsContracting := [2]
  rhsContracting := [0]
  lhsNonContracting := [0, 1]
  rhsNonContracting := [1]
  lhsBatch := []
  rhsBatch := []
  wf := dot_S1024x128x64_S64x8_S1024x128x8_2_0_01_1_n_n_wf
def fn_norm {F : FTy → Type} [FloatOps F] (arg0 : FVec F S1024x3 .f32) : FVec F S1024x1 .f32 :=
  let v0 : FVec F S1024x3 .f32 := mulf arg0 arg0
  let cst : FVec F S_ .f32 := constant S_ .f32 0x00000000#32
  let v1 : FVec F S1024 .f32 := (fun x v => Host.reduceAdd x v reducesTo_S1024x3_S1024_d1 h_S_) v0 cst
  let v2 : FVec F S1024x1 .f32 := broadcastInDim S1024x1 ![0] bcast_S1024_S1024x1_0 v1
  let v3 : FVec F S1024x1 .f32 := Host.sqrt v2
  v3

def fn_relu {F : FTy → Type} [FloatOps F] (arg0 : FVec F S1024x128x64 .f32) : FVec F S1024x128x64 .f32 :=
  let cst : FVec F S_ .f32 := constant S_ .f32 0x00000000#32
  let v0 : FVec F S1024x128x64 .f32 := broadcastInDim S1024x128x64 ![] bcast_S_S1024x128x64 cst
  let v1 : FVec F S1024x128x64 .f32 := maximumf arg0 v0
  v1

def fn_relu_0 {F : FTy → Type} [FloatOps F] (arg0 : FVec F S1024x128x8x64 .f32) : FVec F S1024x128x8x64 .f32 :=
  let cst : FVec F S_ .f32 := constant S_ .f32 0x00000000#32
  let v0 : FVec F S1024x128x8x64 .f32 := broadcastInDim S1024x128x8x64 ![] bcast_S_S1024x128x8x64 cst
  let v1 : FVec F S1024x128x8x64 .f32 := maximumf arg0 v0
  v1

def fn_part9 {F : FTy → Type} [FloatOps F] (main_v79 : IVec S_ 1) (main_v135 : IVec S_ 1) (main_v170 : IVec S1024x128x8x8 1) (main_c_42 : IVec S_ 1) : IVec S_ 1 :=
  let main_v171 : IVec S1024x128 1 := (fun x v => Host.reduce IntOp.ori x v reducesTo_S1024x128x8x8_S1024x128_d2_3 h_S_) main_v170 main_c_42
  let main_c_43 : IVec S_ 1 := constantI S_ 1 1#1
  let main_v172 : IVec S_ 1 := (fun x v => Host.reduce IntOp.andi x v reducesTo_S1024x128_S_d0_1 h_S_) main_v171 main_c_43
  let main_v173 : IVec S_ 1 := andi main_v79 main_v135
  let main_v174 : IVec S_ 1 := andi main_v173 main_v172
  main_v174

def fn_part8 {F : FTy → Type} [FloatOps F] (main_v79 : IVec S_ 1) (main_v135 : IVec S_ 1) (main_v147 : FVec F S1024x128x8x8 .f32) (main_v148 : FVec F S1024x128x8x8 .f32) : IVec S_ 1 :=
  let main_v149 : IVec S1024x128x8x8 1 := cmpf .ogt main_v147 main_v148
  let main_v150 : IVec S8 32 := iotaInDim S8 32 0
  let main_v151 : IVec S1x1x8 32 := broadcastInDim S1x1x8 ![2] bcast_S8_S1x1x8_2 main_v150
  let main_v152 : IVec S8x1x1 32 := broadcastInDim S8x1x1 ![0] bcast_S8_S8x1x1_0 main_v150
  let main_v153 : IVec S8x1x8 32 := broadcastInDim S8x1x8 ![0, 1, 2] bcast_S1x1x8_S8x1x8_0_1_2 main_v151
  let main_v154 : IVec S8x1x8 32 := broadcastInDim S8x1x8 ![0, 1, 2] bcast_S8x1x1_S8x1x8_0_1_2 main_v152
  let main_v155 : IVec S8x1x8 1 := cmpi .eq main_v153 main_v154
  let main_v156 : IVec S1x1x8 32 := broadcastInDim S1x1x8 ![2] bcast_S8_S1x1x8_2 main_v150
  let main_v157 : IVec S1x8x1 32 := broadcastInDim S1x8x1 ![1] bcast_S8_S1x8x1_1 main_v150
  let main_v158 : IVec S1x8x8 32 := broadcastInDim S1x8x8 ![0, 1, 2] bcast_S1x1x8_S1x8x8_0_1_2 main_v156
  let main_v159 : IVec S1x8x8 32 := broadcastInDim S1x8x8 ![0, 1, 2] bcast_S1x8x1_S1x8x8_0_1_2 main_v157
  let main_v160 : IVec S1x8x8 1 := cmpi .eq main_v158 main_v159
  let main_v161 : IVec S8x8x8 1 := broadcastInDim S8x8x8 ![0, 1, 2] bcast_S8x1x8_S8x8x8_0_1_2 main_v155
  let main_v162 : IVec S8x8x8 1 := broadcastInDim S8x8x8 ![0, 1, 2] bcast_S1x8x8_S8x8x8_0_1_2 main_v160
  let main_v163 : IVec S8x8x8 1 := ori main_v161 main_v162
  let main_v164 : IVec S1024x128x1x8x8 1 := broadcastInDim S1024x128x1x8x8 ![0, 1, 3, 4] bcast_S1024x128x8x8_S1024x128x1x8x8_0_1_3_4 main_v149
  let main_v165 : IVec S1x1x8x8x8 1 := broadcastInDim S1x1x8x8x8 ![2, 3, 4] bcast_S8x8x8_S1x1x8x8x8_2_3_4 main_v163
  let main_v166 : IVec S1024x128x8x8x8 1 := broadcastInDim S1024x128x8x8x8 ![0, 1, 2, 3, 4] bcast_S1024x128x1x8x8_S1024x128x8x8x8_0_1_2_3_4 main_v164
  let main_v167 : IVec S1024x128x8x8x8 1 := broadcastInDim S1024x128x8x8x8 ![0, 1, 2, 3, 4] bcast_S1x1x8x8x8_S1024x128x8x8x8_0_1_2_3_4 main_v165
  let main_v168 : IVec S1024x128x8x8x8 1 := ori main_v166 main_v167
  let main_c_41 : IVec S_ 1 := constantI S_ 1 1#1
  let main_v169 : IVec S1024x128x8x8 1 := (fun x v => Host.reduce IntOp.andi x v reducesTo_S1024x128x8x8x8_S1024x128x8x8_d4 h_S_) main_v168 main_c_41
  let main_v170 : IVec S1024x128x8x8 1 := andi main_v149 main_v169
  let main_c_42 : IVec S_ 1 := constantI S_ 1 0#1
  fn_part9 (F := F) main_v79 main_v135 main_v170 main_c_42

def fn_part7 {F : FTy → Type} [FloatOps F] (main_arg8 : FVec F S6x64 .f32) (main_arg9 : FVec F S64 .f32) (main_arg10 : FVec F S64x8 .f32) (main_arg11 : FVec F S8 .f32) (main_v79 : IVec S_ 1) (main_v102 : FVec F S1024x128x6 .f32) (main_v117 : IVec S_ 1) (main_v127 : FVec F S1024x128x8x4 .f32) : IVec S_ 1 :=
  let main_v128 : FVec F S1024x128x8x1 .f32 := (extractStridedSlice S1024x128x8x1 ![0, 0, 0, 3] · slices_S1024x128x8x4_S1024x128x8x1_0_0_0_3) main_v127
  let main_v129 : FVec F S1024x128x8 .f32 := shapeCast S1024x128x8 main_v128 shapeCasts_S1024x128x8x1_S1024x128x8
  let main_cst_38 : FVec F S_ .f32 := constant S_ .f32 0xC0800000#32
  let main_v130 : FVec F S1024x128x8 .f32 := broadcastInDim S1024x128x8 ![] bcast_S_S1024x128x8 main_cst_38
  let main_v131 : FVec F S1024x128x8 .f32 := addf main_v129 main_v130
  let main_cst_39 : FVec F S_ .f32 := constant S_ .f32 0x41A00000#32
  let main_v132 : FVec F S1024x128x8 .f32 := broadcastInDim S1024x128x8 ![] bcast_S_S1024x128x8 main_cst_39
  let main_v133 : IVec S1024x128x8 1 := cmpf .ole main_v131 main_v132
  let main_c_40 : IVec S_ 1 := constantI S_ 1 1#1
  let main_v134 : IVec S_ 1 := (fun x v => Host.reduce IntOp.andi x v reducesTo_S1024x128x8_S_d0_1_2 h_S_) main_v133 main_c_40
  let main_v135 : IVec S_ 1 := andi main_v117 main_v134
  let main_v136 : FVec F S1024x128x64 .f32 := (fun l r => Host.dotGeneral dot_S1024x128x6_S6x64_S1024x128x64_2_0_01_1_n_n none l r) main_v102 main_arg8
  let main_v137 : FVec F S1x1x64 .f32 := broadcastInDim S1x1x64 ![2] bcast_S64_S1x1x64_2 main_arg9
  let main_v138 : FVec F S1024x128x64 .f32 := broadcastInDim S1024x128x64 ![0, 1, 2] bcast_S1x1x64_S1024x128x64_0_1_2 main_v137
  let main_v139 : FVec F S1024x128x64 .f32 := addf main_v136 main_v138
  let main_v140 : FVec F S1024x128x64 .f32 := fn_relu (F := F) main_v139
  let main_v141 : FVec F S1024x128x8 .f32 := (fun l r => Host.dotGeneral dot_S1024x128x64_S64x8_S1024x128x8_2_0_01_1_n_n none l r) main_v140 main_arg10
  let main_v142 : FVec F S1x1x8 .f32 := broadcastInDim S1x1x8 ![2] bcast_S8_S1x1x8_2 main_arg11
  let main_v143 : FVec F S1024x128x8 .f32 := broadcastInDim S1024x128x8 ![0, 1, 2] bcast_S1x1x8_S1024x128x8_0_1_2 main_v142
  let main_v144 : FVec F S1024x128x8 .f32 := addf main_v141 main_v143
  let main_v145 : FVec F S1024x128x8x1 .f32 := broadcastInDim S1024x128x8x1 ![0, 1, 2] bcast_S1024x128x8_S1024x128x8x1_0_1_2 main_v144
  let main_v146 : FVec F S1024x128x1x8 .f32 := broadcastInDim S1024x128x1x8 ![0, 1, 3] bcast_S1024x128x8_S1024x128x1x8_0_1_3 main_v144
  let main_v147 : FVec F S1024x128x8x8 .f32 := broadcastInDim S1024x128x8x8 ![0, 1, 2, 3] bcast_S1024x128x8x1_S1024x128x8x8_0_1_2_3 main_v145
  let main_v148 : FVec F S1024x128x8x8 .f32 := broadcastInDim S1024x128x8x8 ![0, 1, 2, 3] bcast_S1024x128x1x8_S1024x128x8x8_0_1_2_3 main_v146
  fn_part8 (F := F) main_v79 main_v135 main_v147 main_v148

def fn_part6 {F : FTy → Type} [FloatOps F] (main_arg6 : FVec F S64x1 .f32) (main_arg7 : FVec F S1 .f32) (main_arg8 : FVec F S6x64 .f32) (main_arg9 : FVec F S64 .f32) (main_arg10 : FVec F S64x8 .f32) (main_arg11 : FVec F S8 .f32) (main_arg12 : FVec F S8x6x64 .f32) (main_arg13 : FVec F S8x64 .f32) (main_arg14 : FVec F S8x64x4 .f32) (main_arg15 : FVec F S8x4 .f32) (main_v79 : IVec S_ 1) (main_v102 : FVec F S1024x128x6 .f32) (main_v106 : FVec F S1024x128x64 .f32) : IVec S_ 1 :=
  let main_v107 : FVec F S1024x128x64 .f32 := fn_relu (F := F) main_v106
  let main_v108 : FVec F S1024x128x1 .f32 := (fun l r => Host.dotGeneral dot_S1024x128x64_S64x1_S1024x128x1_2_0_01_1_n_n none l r) main_v107 main_arg6
  let main_v109 : FVec F S1x1x1 .f32 := broadcastInDim S1x1x1 ![2] bcast_S1_S1x1x1_2 main_arg7
  let main_v110 : FVec F S1024x128x1 .f32 := broadcastInDim S1024x128x1 ![0, 1, 2] bcast_S1x1x1_S1024x128x1_0_1_2 main_v109
  let main_v111 : FVec F S1024x128x1 .f32 := addf main_v108 main_v110
  let main_v112 : FVec F S1024x128 .f32 := shapeCast S1024x128 main_v111 shapeCasts_S1024x128x1_S1024x128
  let main_cst_35 : FVec F S_ .f32 := constant S_ .f32 0xC0800000#32
  let main_v113 : FVec F S1024x128 .f32 := broadcastInDim S1024x128 ![] bcast_S_S1024x128 main_cst_35
  let main_v114 : FVec F S1024x128 .f32 := addf main_v112 main_v113
  let main_cst_36 : FVec F S_ .f32 := constant S_ .f32 0x41A00000#32
  let main_v115 : FVec F S1024x128 .f32 := broadcastInDim S1024x128 ![] bcast_S_S1024x128 main_cst_36
  let main_v116 : IVec S1024x128 1 := cmpf .ole main_v114 main_v115
  let main_c_37 : IVec S_ 1 := constantI S_ 1 1#1
  let main_v117 : IVec S_ 1 := (fun x v => Host.reduce IntOp.andi x v reducesTo_S1024x128_S_d0_1 h_S_) main_v116 main_c_37
  let main_v118 : FVec F S1024x128x8x64 .f32 := (fun l r => Host.dotGeneral dot_S1024x128x6_S8x6x64_S1024x128x8x64_2_1_01_02_n_n none l r) main_v102 main_arg12
  let main_v119 : FVec F S1x1x8x64 .f32 := broadcastInDim S1x1x8x64 ![2, 3] bcast_S8x64_S1x1x8x64_2_3 main_arg13
  let main_v120 : FVec F S1024x128x8x64 .f32 := broadcastInDim S1024x128x8x64 ![0, 1, 2, 3] bcast_S1x1x8x64_S1024x128x8x64_0_1_2_3 main_v119
  let main_v121 : FVec F S1024x128x8x64 .f32 := addf main_v118 main_v120
  let main_v122 : FVec F S1024x128x8x64 .f32 := fn_relu_0 (F := F) main_v121
  let main_v123 : FVec F S8x4x1024x128 .f32 := (fun l r => Host.dotGeneral dot_S8x64x4_S1024x128x8x64_S8x4x1024x128_1_3_2_01_0_2 none l r) main_arg14 main_v122
  let main_v124 : FVec F S1024x128x8x4 .f32 := (transpose S1024x128x8x4 [2, 3, 0, 1] · transposes_S8x4x1024x128_S1024x128x8x4_2_3_0_1) main_v123
  let main_v125 : FVec F S1x1x8x4 .f32 := broadcastInDim S1x1x8x4 ![2, 3] bcast_S8x4_S1x1x8x4_2_3 main_arg15
  let main_v126 : FVec F S1024x128x8x4 .f32 := broadcastInDim S1024x128x8x4 ![0, 1, 2, 3] bcast_S1x1x8x4_S1024x128x8x4_0_1_2_3 main_v125
  let main_v127 : FVec F S1024x128x8x4 .f32 := addf main_v124 main_v126
  fn_part7 (F := F) main_arg8 main_arg9 main_arg10 main_arg11 main_v79 main_v102 main_v117 main_v127

def fn_part5 {F : FTy → Type} [FloatOps F] (main_arg0 : FVec F S1024x3 .f32) (main_arg2 : FVec F S1024x3 .f32) (main_arg4 : FVec F S3x64 .f32) (main_arg5 : FVec F S64 .f32) (main_arg6 : FVec F S64x1 .f32) (main_arg7 : FVec F S1 .f32) (main_arg8 : FVec F S6x64 .f32) (main_arg9 : FVec F S64 .f32) (main_arg10 : FVec F S64x8 .f32) (main_arg11 : FVec F S8 .f32) (main_arg12 : FVec F S8x6x64 .f32) (main_arg13 : FVec F S8x64 .f32) (main_arg14 : FVec F S8x64x4 .f32) (main_arg15 : FVec F S8x4 .f32) (main_v79 : IVec S_ 1) (main_v84 : FVec F S1024x3 .f32) (main_v85 : FVec F S128 .f32) : IVec S_ 1 :=
  let main_cst_32 : FVec F S_ .f32 := constant S_ .f32 0x3F000000#32
  let main_v86 : FVec F S128 .f32 := broadcastInDim S128 ![] bcast_S_S128 main_cst_32
  let main_v87 : FVec F S128 .f32 := addf main_v85 main_v86
  let main_cst_33 : FVec F S_ .f32 := constant S_ .f32 0x3BA3D70A#32
  let main_v88 : FVec F S128 .f32 := broadcastInDim S128 ![] bcast_S_S128 main_cst_33
  let main_v89 : FVec F S128 .f32 := mulf main_v88 main_v87
  let main_cst_34 : FVec F S_ .f32 := constant S_ .f32 0x3E4CCCCD#32
  let main_v90 : FVec F S128 .f32 := broadcastInDim S128 ![] bcast_S_S128 main_cst_34
  let main_v91 : FVec F S128 .f32 := addf main_v90 main_v89
  let main_v92 : FVec F S1024x1x3 .f32 := broadcastInDim S1024x1x3 ![0, 2] bcast_S1024x3_S1024x1x3_0_2 main_arg0
  let main_v93 : FVec F S1024x1x3 .f32 := broadcastInDim S1024x1x3 ![0, 2] bcast_S1024x3_S1024x1x3_0_2 main_v84
  let main_v94 : FVec F S1x128x1 .f32 := broadcastInDim S1x128x1 ![1] bcast_S128_S1x128x1_1 main_v91
  let main_v95 : FVec F S1024x128x3 .f32 := broadcastInDim S1024x128x3 ![0, 1, 2] bcast_S1024x1x3_S1024x128x3_0_1_2 main_v93
  let main_v96 : FVec F S1024x128x3 .f32 := broadcastInDim S1024x128x3 ![0, 1, 2] bcast_S1x128x1_S1024x128x3_0_1_2 main_v94
  let main_v97 : FVec F S1024x128x3 .f32 := mulf main_v95 main_v96
  let main_v98 : FVec F S1024x128x3 .f32 := broadcastInDim S1024x128x3 ![0, 1, 2] bcast_S1024x1x3_S1024x128x3_0_1_2 main_v92
  let main_v99 : FVec F S1024x128x3 .f32 := addf main_v98 main_v97
  let main_v100 : FVec F S1024x1x3 .f32 := broadcastInDim S1024x1x3 ![0, 2] bcast_S1024x3_S1024x1x3_0_2 main_arg2
  let main_v101 : FVec F S1024x128x3 .f32 := broadcastInDim S1024x128x3 ![0, 1, 2] bcast_S1024x1x3_S1024x128x3_0_1_2 main_v100
  let main_v102 : FVec F S1024x128x6 .f32 := (fun a b => concatenate S1024x128x6 2 [⟨S1024x128x3, a⟩, ⟨S1024x128x3, b⟩] concatenates_S1024x128x3_S1024x128x3_S1024x128x6_d2) main_v99 main_v101
  let main_v103 : FVec F S1024x128x64 .f32 := (fun l r => Host.dotGeneral dot_S1024x128x3_S3x64_S1024x128x64_2_0_01_1_n_n none l r) main_v99 main_arg4
  let main_v104 : FVec F S1x1x64 .f32 := broadcastInDim S1x1x64 ![2] bcast_S64_S1x1x64_2 main_arg5
  let main_v105 : FVec F S1024x128x64 .f32 := broadcastInDim S1024x128x64 ![0, 1, 2] bcast_S1x1x64_S1024x128x64_0_1_2 main_v104
  let main_v106 : FVec F S1024x128x64 .f32 := addf main_v103 main_v105
  fn_part6 (F := F) main_arg6 main_arg7 main_arg8 main_arg9 main_arg10 main_arg11 main_arg12 main_arg13 main_arg14 main_arg15 main_v79 main_v102 main_v106

def fn_part4 {F : FTy → Type} [FloatOps F] (main_arg0 : FVec F S1024x3 .f32) (main_arg1 : FVec F S1024x3 .f32) (main_arg2 : FVec F S1024x3 .f32) (main_arg4 : FVec F S3x64 .f32) (main_arg5 : FVec F S64 .f32) (main_arg6 : FVec F S64x1 .f32) (main_arg7 : FVec F S1 .f32) (main_arg8 : FVec F S6x64 .f32) (main_arg9 : FVec F S64 .f32) (main_arg10 : FVec F S64x8 .f32) (main_arg11 : FVec F S8 .f32) (main_arg12 : FVec F S8x6x64 .f32) (main_arg13 : FVec F S8x64 .f32) (main_arg14 : FVec F S8x64x4 .f32) (main_arg15 : FVec F S8x4 .f32) (main_v64 : IVec S_ 1) (main_v67 : IVec S8x64 1) : IVec S_ 1 :=
  let main_c_26 : IVec S_ 1 := constantI S_ 1 1#1
  let main_v68 : IVec S_ 1 := (fun x v => Host.reduce IntOp.andi x v reducesTo_S8x64_S_d0_1 h_S_) main_v67 main_c_26
  let main_v69 : IVec S_ 1 := andi main_v64 main_v68
  let main_v70 : FVec F S8x64x4 .f32 := Host.absf main_arg14
  let main_cst_27 : FVec F S_ .f32 := constant S_ .f32 0x7F800000#32
  let main_v71 : FVec F S8x64x4 .f32 := broadcastInDim S8x64x4 ![] bcast_S_S8x64x4 main_cst_27
  let main_v72 : IVec S8x64x4 1 := cmpf .olt main_v70 main_v71
  let main_c_28 : IVec S_ 1 := constantI S_ 1 1#1
  let main_v73 : IVec S_ 1 := (fun x v => Host.reduce IntOp.andi x v reducesTo_S8x64x4_S_d0_1_2 h_S_) main_v72 main_c_28
  let main_v74 : IVec S_ 1 := andi main_v69 main_v73
  let main_v75 : FVec F S8x4 .f32 := Host.absf main_arg15
  let main_cst_29 : FVec F S_ .f32 := constant S_ .f32 0x7F800000#32
  let main_v76 : FVec F S8x4 .f32 := broadcastInDim S8x4 ![] bcast_S_S8x4 main_cst_29
  let main_v77 : IVec S8x4 1 := cmpf .olt main_v75 main_v76
  let main_c_30 : IVec S_ 1 := constantI S_ 1 1#1
  let main_v78 : IVec S_ 1 := (fun x v => Host.reduce IntOp.andi x v reducesTo_S8x4_S_d0_1 h_S_) main_v77 main_c_30
  let main_v79 : IVec S_ 1 := andi main_v74 main_v78
  let main_v80 : FVec F S1024x1 .f32 := fn_norm (F := F) main_arg1
  let main_cst_31 : FVec F S_ .f32 := constant S_ .f32 0x322BCC77#32
  let main_v81 : FVec F S1024x1 .f32 := broadcastInDim S1024x1 ![] bcast_S_S1024x1 main_cst_31
  let main_v82 : FVec F S1024x1 .f32 := addf main_v80 main_v81
  let main_v83 : FVec F S1024x3 .f32 := broadcastInDim S1024x3 ![0, 1] bcast_S1024x1_S1024x3_0_1 main_v82
  let main_v84 : FVec F S1024x3 .f32 := Host.divf main_arg1 main_v83
  let main_v85 : FVec F S128 .f32 := sitofp .f32 (iotaInDim S128 32 0)
  fn_part5 (F := F) main_arg0 main_arg2 main_arg4 main_arg5 main_arg6 main_arg7 main_arg8 main_arg9 main_arg10 main_arg11 main_arg12 main_arg13 main_arg14 main_arg15 main_v79 main_v84 main_v85

def fn_part3 {F : FTy → Type} [FloatOps F] (main_arg0 : FVec F S1024x3 .f32) (main_arg1 : FVec F S1024x3 .f32) (main_arg2 : FVec F S1024x3 .f32) (main_arg4 : FVec F S3x64 .f32) (main_arg5 : FVec F S64 .f32) (main_arg6 : FVec F S64x1 .f32) (main_arg7 : FVec F S1 .f32) (main_arg8 : FVec F S6x64 .f32) (main_arg9 : FVec F S64 .f32) (main_arg10 : FVec F S64x8 .f32) (main_arg11 : FVec F S8 .f32) (main_arg12 : FVec F S8x6x64 .f32) (main_arg13 : FVec F S8x64 .f32) (main_arg14 : FVec F S8x64x4 .f32) (main_arg15 : FVec F S8x4 .f32) (main_v49 : IVec S_ 1) (main_v50 : FVec F S64x8 .f32) : IVec S_ 1 :=
  let main_cst_19 : FVec F S_ .f32 := constant S_ .f32 0x7F800000#32
  let main_v51 : FVec F S64x8 .f32 := broadcastInDim S64x8 ![] bcast_S_S64x8 main_cst_19
  let main_v52 : IVec S64x8 1 := cmpf .olt main_v50 main_v51
  let main_c_20 : IVec S_ 1 := constantI S_ 1 1#1
  let main_v53 : IVec S_ 1 := (fun x v => Host.reduce IntOp.andi x v reducesTo_S64x8_S_d0_1 h_S_) main_v52 main_c_20
  let main_v54 : IVec S_ 1 := andi main_v49 main_v53
  let main_v55 : FVec F S8 .f32 := Host.absf main_arg11
  let main_cst_21 : FVec F S_ .f32 := constant S_ .f32 0x7F800000#32
  let main_v56 : FVec F S8 .f32 := broadcastInDim S8 ![] bcast_S_S8 main_cst_21
  let main_v57 : IVec S8 1 := cmpf .olt main_v55 main_v56
  let main_c_22 : IVec S_ 1 := constantI S_ 1 1#1
  let main_v58 : IVec S_ 1 := (fun x v => Host.reduce IntOp.andi x v reducesTo_S8_S_d0 h_S_) main_v57 main_c_22
  let main_v59 : IVec S_ 1 := andi main_v54 main_v58
  let main_v60 : FVec F S8x6x64 .f32 := Host.absf main_arg12
  let main_cst_23 : FVec F S_ .f32 := constant S_ .f32 0x7F800000#32
  let main_v61 : FVec F S8x6x64 .f32 := broadcastInDim S8x6x64 ![] bcast_S_S8x6x64 main_cst_23
  let main_v62 : IVec S8x6x64 1 := cmpf .olt main_v60 main_v61
  let main_c_24 : IVec S_ 1 := constantI S_ 1 1#1
  let main_v63 : IVec S_ 1 := (fun x v => Host.reduce IntOp.andi x v reducesTo_S8x6x64_S_d0_1_2 h_S_) main_v62 main_c_24
  let main_v64 : IVec S_ 1 := andi main_v59 main_v63
  let main_v65 : FVec F S8x64 .f32 := Host.absf main_arg13
  let main_cst_25 : FVec F S_ .f32 := constant S_ .f32 0x7F800000#32
  let main_v66 : FVec F S8x64 .f32 := broadcastInDim S8x64 ![] bcast_S_S8x64 main_cst_25
  let main_v67 : IVec S8x64 1 := cmpf .olt main_v65 main_v66
  fn_part4 (F := F) main_arg0 main_arg1 main_arg2 main_arg4 main_arg5 main_arg6 main_arg7 main_arg8 main_arg9 main_arg10 main_arg11 main_arg12 main_arg13 main_arg14 main_arg15 main_v64 main_v67

def fn_part2 {F : FTy → Type} [FloatOps F] (main_arg0 : FVec F S1024x3 .f32) (main_arg1 : FVec F S1024x3 .f32) (main_arg2 : FVec F S1024x3 .f32) (main_arg4 : FVec F S3x64 .f32) (main_arg5 : FVec F S64 .f32) (main_arg6 : FVec F S64x1 .f32) (main_arg7 : FVec F S1 .f32) (main_arg8 : FVec F S6x64 .f32) (main_arg9 : FVec F S64 .f32) (main_arg10 : FVec F S64x8 .f32) (main_arg11 : FVec F S8 .f32) (main_arg12 : FVec F S8x6x64 .f32) (main_arg13 : FVec F S8x64 .f32) (main_arg14 : FVec F S8x64x4 .f32) (main_arg15 : FVec F S8x4 .f32) (main_v29 : IVec S_ 1) (main_v32 : IVec S64x1 1) (main_c_12 : IVec S_ 1) : IVec S_ 1 :=
  let main_v33 : IVec S_ 1 := (fun x v => Host.reduce IntOp.andi x v reducesTo_S64x1_S_d0_1 h_S_) main_v32 main_c_12
  let main_v34 : IVec S_ 1 := andi main_v29 main_v33
  let main_v35 : FVec F S1 .f32 := Host.absf main_arg7
  let main_cst_13 : FVec F S_ .f32 := constant S_ .f32 0x7F800000#32
  let main_v36 : FVec F S1 .f32 := broadcastInDim S1 ![] bcast_S_S1 main_cst_13
  let main_v37 : IVec S1 1 := cmpf .olt main_v35 main_v36
  let main_c_14 : IVec S_ 1 := constantI S_ 1 1#1
  let main_v38 : IVec S_ 1 := (fun x v => Host.reduce IntOp.andi x v reducesTo_S1_S_d0 h_S_) main_v37 main_c_14
  let main_v39 : IVec S_ 1 := andi main_v34 main_v38
  let main_v40 : FVec F S6x64 .f32 := Host.absf main_arg8
  let main_cst_15 : FVec F S_ .f32 := constant S_ .f32 0x7F800000#32
  let main_v41 : FVec F S6x64 .f32 := broadcastInDim S6x64 ![] bcast_S_S6x64 main_cst_15
  let main_v42 : IVec S6x64 1 := cmpf .olt main_v40 main_v41
  let main_c_16 : IVec S_ 1 := constantI S_ 1 1#1
  let main_v43 : IVec S_ 1 := (fun x v => Host.reduce IntOp.andi x v reducesTo_S6x64_S_d0_1 h_S_) main_v42 main_c_16
  let main_v44 : IVec S_ 1 := andi main_v39 main_v43
  let main_v45 : FVec F S64 .f32 := Host.absf main_arg9
  let main_cst_17 : FVec F S_ .f32 := constant S_ .f32 0x7F800000#32
  let main_v46 : FVec F S64 .f32 := broadcastInDim S64 ![] bcast_S_S64 main_cst_17
  let main_v47 : IVec S64 1 := cmpf .olt main_v45 main_v46
  let main_c_18 : IVec S_ 1 := constantI S_ 1 1#1
  let main_v48 : IVec S_ 1 := (fun x v => Host.reduce IntOp.andi x v reducesTo_S64_S_d0 h_S_) main_v47 main_c_18
  let main_v49 : IVec S_ 1 := andi main_v44 main_v48
  let main_v50 : FVec F S64x8 .f32 := Host.absf main_arg10
  fn_part3 (F := F) main_arg0 main_arg1 main_arg2 main_arg4 main_arg5 main_arg6 main_arg7 main_arg8 main_arg9 main_arg10 main_arg11 main_arg12 main_arg13 main_arg14 main_arg15 main_v49 main_v50

def fn_part1 {F : FTy → Type} [FloatOps F] (main_arg0 : FVec F S1024x3 .f32) (main_arg1 : FVec F S1024x3 .f32) (main_arg2 : FVec F S1024x3 .f32) (main_arg4 : FVec F S3x64 .f32) (main_arg5 : FVec F S64 .f32) (main_arg6 : FVec F S64x1 .f32) (main_arg7 : FVec F S1 .f32) (main_arg8 : FVec F S6x64 .f32) (main_arg9 : FVec F S64 .f32) (main_arg10 : FVec F S64x8 .f32) (main_arg11 : FVec F S8 .f32) (main_arg12 : FVec F S8x6x64 .f32) (main_arg13 : FVec F S8x64 .f32) (main_arg14 : FVec F S8x64x4 .f32) (main_arg15 : FVec F S8x4 .f32) (main_v14 : IVec S_ 1) (main_v15 : FVec F S3 .f32) (main_cst_5 : FVec F S_ .f32) : IVec S_ 1 :=
  let main_v16 : FVec F S3 .f32 := broadcastInDim S3 ![] bcast_S_S3 main_cst_5
  let main_v17 : IVec S3 1 := cmpf .olt main_v15 main_v16
  let main_c_6 : IVec S_ 1 := constantI S_ 1 1#1
  let main_v18 : IVec S_ 1 := (fun x v => Host.reduce IntOp.andi x v reducesTo_S3_S_d0 h_S_) main_v17 main_c_6
  let main_v19 : IVec S_ 1 := andi main_v14 main_v18
  let main_v20 : FVec F S3x64 .f32 := Host.absf main_arg4
  let main_cst_7 : FVec F S_ .f32 := constant S_ .f32 0x7F800000#32
  let main_v21 : FVec F S3x64 .f32 := broadcastInDim S3x64 ![] bcast_S_S3x64 main_cst_7
  let main_v22 : IVec S3x64 1 := cmpf .olt main_v20 main_v21
  let main_c_8 : IVec S_ 1 := constantI S_ 1 1#1
  let main_v23 : IVec S_ 1 := (fun x v => Host.reduce IntOp.andi x v reducesTo_S3x64_S_d0_1 h_S_) main_v22 main_c_8
  let main_v24 : IVec S_ 1 := andi main_v19 main_v23
  let main_v25 : FVec F S64 .f32 := Host.absf main_arg5
  let main_cst_9 : FVec F S_ .f32 := constant S_ .f32 0x7F800000#32
  let main_v26 : FVec F S64 .f32 := broadcastInDim S64 ![] bcast_S_S64 main_cst_9
  let main_v27 : IVec S64 1 := cmpf .olt main_v25 main_v26
  let main_c_10 : IVec S_ 1 := constantI S_ 1 1#1
  let main_v28 : IVec S_ 1 := (fun x v => Host.reduce IntOp.andi x v reducesTo_S64_S_d0 h_S_) main_v27 main_c_10
  let main_v29 : IVec S_ 1 := andi main_v24 main_v28
  let main_v30 : FVec F S64x1 .f32 := Host.absf main_arg6
  let main_cst_11 : FVec F S_ .f32 := constant S_ .f32 0x7F800000#32
  let main_v31 : FVec F S64x1 .f32 := broadcastInDim S64x1 ![] bcast_S_S64x1 main_cst_11
  let main_v32 : IVec S64x1 1 := cmpf .olt main_v30 main_v31
  let main_c_12 : IVec S_ 1 := constantI S_ 1 1#1
  fn_part2 (F := F) main_arg0 main_arg1 main_arg2 main_arg4 main_arg5 main_arg6 main_arg7 main_arg8 main_arg9 main_arg10 main_arg11 main_arg12 main_arg13 main_arg14 main_arg15 main_v29 main_v32 main_c_12

def fn {F : FTy → Type} [FloatOps F] (main_arg0 : FVec F S1024x3 .f32) (main_arg1 : FVec F S1024x3 .f32) (main_arg2 : FVec F S1024x3 .f32) (main_arg3 : FVec F S3 .f32) (main_arg4 : FVec F S3x64 .f32) (main_arg5 : FVec F S64 .f32) (main_arg6 : FVec F S64x1 .f32) (main_arg7 : FVec F S1 .f32) (main_arg8 : FVec F S6x64 .f32) (main_arg9 : FVec F S64 .f32) (main_arg10 : FVec F S64x8 .f32) (main_arg11 : FVec F S8 .f32) (main_arg12 : FVec F S8x6x64 .f32) (main_arg13 : FVec F S8x64 .f32) (main_arg14 : FVec F S8x64x4 .f32) (main_arg15 : FVec F S8x4 .f32) : IVec S_ 1 :=
  let main_v0 : FVec F S1024x3 .f32 := Host.absf main_arg0
  let main_cst : FVec F S_ .f32 := constant S_ .f32 0x7F800000#32
  let main_v1 : FVec F S1024x3 .f32 := broadcastInDim S1024x3 ![] bcast_S_S1024x3 main_cst
  let main_v2 : IVec S1024x3 1 := cmpf .olt main_v0 main_v1
  let main_c : IVec S_ 1 := constantI S_ 1 1#1
  let main_v3 : IVec S_ 1 := (fun x v => Host.reduce IntOp.andi x v reducesTo_S1024x3_S_d0_1 h_S_) main_v2 main_c
  let main_c_0 : IVec S_ 1 := constantI S_ 1 1#1
  let main_v4 : IVec S_ 1 := andi main_c_0 main_v3
  let main_v5 : FVec F S1024x3 .f32 := Host.absf main_arg1
  let main_cst_1 : FVec F S_ .f32 := constant S_ .f32 0x7F800000#32
  let main_v6 : FVec F S1024x3 .f32 := broadcastInDim S1024x3 ![] bcast_S_S1024x3 main_cst_1
  let main_v7 : IVec S1024x3 1 := cmpf .olt main_v5 main_v6
  let main_c_2 : IVec S_ 1 := constantI S_ 1 1#1
  let main_v8 : IVec S_ 1 := (fun x v => Host.reduce IntOp.andi x v reducesTo_S1024x3_S_d0_1 h_S_) main_v7 main_c_2
  let main_v9 : IVec S_ 1 := andi main_v4 main_v8
  let main_v10 : FVec F S1024x3 .f32 := Host.absf main_arg2
  let main_cst_3 : FVec F S_ .f32 := constant S_ .f32 0x7F800000#32
  let main_v11 : FVec F S1024x3 .f32 := broadcastInDim S1024x3 ![] bcast_S_S1024x3 main_cst_3
  let main_v12 : IVec S1024x3 1 := cmpf .olt main_v10 main_v11
  let main_c_4 : IVec S_ 1 := constantI S_ 1 1#1
  let main_v13 : IVec S_ 1 := (fun x v => Host.reduce IntOp.andi x v reducesTo_S1024x3_S_d0_1 h_S_) main_v12 main_c_4
  let main_v14 : IVec S_ 1 := andi main_v9 main_v13
  let main_v15 : FVec F S3 .f32 := Host.absf main_arg3
  let main_cst_5 : FVec F S_ .f32 := constant S_ .f32 0x7F800000#32
  fn_part1 (F := F) main_arg0 main_arg1 main_arg2 main_arg4 main_arg5 main_arg6 main_arg7 main_arg8 main_arg9 main_arg10 main_arg11 main_arg12 main_arg13 main_arg14 main_arg15 main_v14 main_v15 main_cst_5
-- ==== Kernel.lean ====
abbrev S1024x3 : Shape := ⟨2, ![1024, 3]⟩
abbrev S3 : Shape := ⟨1, ![3]⟩
abbrev S3x64 : Shape := ⟨2, ![3, 64]⟩
abbrev S64 : Shape := ⟨1, ![64]⟩
abbrev S64x1 : Shape := ⟨2, ![64, 1]⟩
abbrev S1 : Shape := ⟨1, ![1]⟩
abbrev S6x64 : Shape := ⟨2, ![6, 64]⟩
abbrev S64x8 : Shape := ⟨2, ![64, 8]⟩
abbrev S8 : Shape := ⟨1, ![8]⟩
abbrev S8x6x64 : Shape := ⟨3, ![8, 6, 64]⟩
abbrev S8x64 : Shape := ⟨2, ![8, 64]⟩
abbrev S8x64x4 : Shape := ⟨3, ![8, 64, 4]⟩
abbrev S8x4 : Shape := ⟨2, ![8, 4]⟩
abbrev S64x64x128 : Shape := ⟨3, ![64, 64, 128]⟩
abbrev S_ : Shape := ⟨0, ![]⟩
abbrev S1024x7 : Shape := ⟨2, ![1024, 7]⟩
abbrev S1024x16 : Shape := ⟨2, ![1024, 16]⟩
abbrev S4x256x16 : Shape := ⟨3, ![4, 256, 16]⟩
abbrev S4x16x256 : Shape := ⟨3, ![4, 16, 256]⟩
abbrev S8x128 : Shape := ⟨2, ![8, 128]⟩
abbrev S2 : Shape := ⟨1, ![2]⟩
abbrev S32 : Shape := ⟨1, ![32]⟩
abbrev S128x64x128 : Shape := ⟨3, ![128, 64, 128]⟩
abbrev S128x8192 : Shape := ⟨2, ![128, 8192]⟩
abbrev S1x16x256 : Shape := ⟨3, ![1, 16, 256]⟩
abbrev S1x256x16 : Shape := ⟨3, ![1, 256, 16]⟩
abbrev S256x3 : Shape := ⟨2, ![256, 3]⟩
abbrev S8x72 : Shape := ⟨2, ![8, 72]⟩
abbrev S72x8 : Shape := ⟨2, ![72, 8]⟩
abbrev S8x584 : Shape := ⟨2, ![8, 584]⟩
abbrev S584x40 : Shape := ⟨2, ![584, 40]⟩
abbrev S3x8 : Shape := ⟨2, ![3, 8]⟩
abbrev S1x72 : Shape := ⟨2, ![1, 72]⟩
abbrev S3x72 : Shape := ⟨2, ![3, 72]⟩
abbrev S4x72 : Shape := ⟨2, ![4, 72]⟩
abbrev S1x64 : Shape := ⟨2, ![1, 64]⟩
abbrev S1x8 : Shape := ⟨2, ![1, 8]⟩
abbrev S2x72 : Shape := ⟨2, ![2, 72]⟩
abbrev S1x1 : Shape := ⟨2, ![1, 1]⟩
abbrev S1x7 : Shape := ⟨2, ![1, 7]⟩
abbrev S7x8 : Shape := ⟨2, ![7, 8]⟩
abbrev S8x8 : Shape := ⟨2, ![8, 8]⟩
abbrev S1x6x64 : Shape := ⟨3, ![1, 6, 64]⟩
abbrev S6x8 : Shape := ⟨2, ![6, 8]⟩
abbrev S6x584 : Shape := ⟨2, ![6, 584]⟩
abbrev S1x584 : Shape := ⟨2, ![1, 584]⟩
abbrev S2x584 : Shape := ⟨2, ![2, 584]⟩
abbrev S1x64x4 : Shape := ⟨3, ![1, 64, 4]⟩
abbrev S64x4 : Shape := ⟨2, ![64, 4]⟩
abbrev S1x32 : Shape := ⟨2, ![1, 32]⟩
abbrev S7x40 : Shape := ⟨2, ![7, 40]⟩
abbrev S1x40 : Shape := ⟨2, ![1, 40]⟩
abbrev S8x40 : Shape := ⟨2, ![8, 40]⟩
abbrev S16x256 : Shape := ⟨2, ![16, 256]⟩
abbrev S256x16 : Shape := ⟨2, ![256, 16]⟩
abbrev S16x64 : Shape := ⟨2, ![16, 64]⟩
abbrev S8x8192 : Shape := ⟨2, ![8, 8192]⟩
abbrev S72x8192 : Shape := ⟨2, ![72, 8192]⟩
abbrev S584x8192 : Shape := ⟨2, ![584, 8192]⟩
abbrev S40x8192 : Shape := ⟨2, ![40, 8192]⟩
abbrev S64x16 : Shape := ⟨2, ![64, 16]⟩
abbrev S64x3 : Shape := ⟨2, ![64, 3]⟩
abbrev S64x128 : Shape := ⟨2, ![64, 128]⟩
abbrev S8x64x128 : Shape := ⟨3, ![8, 64, 128]⟩
abbrev S1x64x128 : Shape := ⟨3, ![1, 64, 128]⟩
abbrev S40x64x128 : Shape := ⟨3, ![40, 64, 128]⟩

abbrev nBuf : Space → Nat
  | .hbm => 77
  | .vmem => 19
  | .smem => 0
  | _ => 0

abbrev bufTy : (tb : Table) → Fin (tcTables nBuf tb) → BufTy
  | .hbm, ⟨0, _⟩ => ⟨S1024x3, .f32⟩
  | .hbm, ⟨1, _⟩ => ⟨S1024x3, .f32⟩
  | .hbm, ⟨2, _⟩ => ⟨S1024x3, .f32⟩
  | .hbm, ⟨3, _⟩ => ⟨S3, .f32⟩
  | .hbm, ⟨4, _⟩ => ⟨S3x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S6x64, .f32⟩
  | .hbm, ⟨9, _⟩ => ⟨S64, .f32⟩
  | .hbm, ⟨10, _⟩ => ⟨S64x8, .f32⟩
  | .hbm, ⟨11, _⟩ => ⟨S8, .f32⟩
  | .hbm, ⟨12, _⟩ => ⟨S8x6x64, .f32⟩
  | .hbm, ⟨13, _⟩ => ⟨S8x64, .f32⟩
  | .hbm, ⟨14, _⟩ => ⟨S8x64x4, .f32⟩
  | .hbm, ⟨15, _⟩ => ⟨S8x4, .f32⟩
  | .hbm, ⟨16, _⟩ => ⟨S64x64x128, .f32⟩
  | .hbm, ⟨17, _⟩ => ⟨S64x64x128, .f32⟩
  | .hbm, ⟨18, _⟩ => ⟨S64x64x128, .f32⟩
  | .hbm, ⟨19, _⟩ => ⟨S_, .f32⟩
  | .hbm, ⟨20, _⟩ => ⟨S1024x7, .f32⟩
  | .hbm, ⟨21, _⟩ => ⟨S1024x16, .f32⟩
  | .hbm, ⟨22, _⟩ => ⟨S4x256x16, .f32⟩
  | .hbm, ⟨23, _⟩ => ⟨S4x16x256, .f32⟩
  | .hbm, ⟨24, _⟩ => ⟨S_, .f32⟩
  | .hbm, ⟨25, _⟩ => ⟨S8x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S8x128, .f32⟩
  | .hbm, ⟨32, _⟩ => ⟨S_, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S8x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S8x128, .f32⟩
  | .hbm, ⟨45, _⟩ => ⟨S32, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S8x128, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S8x128, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S8x128, .f32⟩
  | .hbm, ⟨64, _⟩ => ⟨S64x64x128, .i32⟩
  | .hbm, ⟨65, _⟩ => ⟨S64x64x128, .i32⟩
  | .hbm, ⟨66, _⟩ => ⟨S64x64x128, .f32⟩
  | .hbm, ⟨67, _⟩ => ⟨S64x64x128, .i1⟩
  | .hbm, ⟨68, _⟩ => ⟨S64x64x128, .f32⟩
  | .hbm, ⟨69, _⟩ => ⟨S64x64x128, .f32⟩
  | .hbm, ⟨70, _⟩ => ⟨S64x64x128, .f32⟩
  | .hbm, ⟨71, _⟩ => ⟨S64x64x128, .f32⟩
  | .hbm, ⟨72, _⟩ => ⟨S64x64x128, .f32⟩
  | .hbm, ⟨73, _⟩ => ⟨S128x64x128, .f32⟩
  | .hbm, ⟨74, _⟩ => ⟨S128x8192, .f32⟩
  | .hbm, ⟨75, _⟩ => ⟨S128x8192, .bf16⟩
  | .hbm, ⟨76, _⟩ => ⟨S1024x3, .f32⟩
  | .local _ .vmem, ⟨0, _⟩ => ⟨S1x16x256, .f32⟩
  | .local _ .vmem, ⟨1, _⟩ => ⟨S1x16x256, .f32⟩
  | .local _ .vmem, ⟨2, _⟩ => ⟨S1x256x16, .f32⟩
  | .local _ .vmem, ⟨3, _⟩ => ⟨S1x256x16, .f32⟩
  | .local _ .vmem, ⟨4, _⟩ => ⟨S128x8192, .bf16⟩
  | .local _ .vmem, ⟨5, _⟩ => ⟨S3x64, .f32⟩
  | .local _ .vmem, ⟨6, _⟩ => ⟨S6x64, .f32⟩
  | .local _ .vmem, ⟨7, _⟩ => ⟨S8x6x64, .f32⟩
  | .local _ .vmem, ⟨8, _⟩ => ⟨S8x64, .f32⟩
  | .local _ .vmem, ⟨9, _⟩ => ⟨S64x1, .f32⟩
  | .local _ .vmem, ⟨10, _⟩ => ⟨S64x8, .f32⟩
  | .local _ .vmem, ⟨11, _⟩ => ⟨S8x64x4, .f32⟩
  | .local _ .vmem, ⟨12, _⟩ => ⟨S8x128, .f32⟩
  | .local _ .vmem, ⟨13, _⟩ => ⟨S256x3, .f32⟩
  | .local _ .vmem, ⟨14, _⟩ => ⟨S256x3, .f32⟩
  | .local _ .vmem, ⟨15, _⟩ => ⟨S8x72, .bf16⟩
  | .local _ .vmem, ⟨16, _⟩ => ⟨S72x8, .bf16⟩
  | .local _ .vmem, ⟨17, _⟩ => ⟨S8x584, .bf16⟩
  | .local _ .vmem, ⟨18, _⟩ => ⟨S584x40, .bf16⟩
  | _, _ => ⟨S1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_cst_1 : Ref sig .tc := ⟨.hbm, 18, rfl⟩
abbrev main_cst_2 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_c_4 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_5 : Ref sig .tc := ⟨.hbm, 33, rfl⟩
abbrev main_v10 : Ref sig .tc := ⟨.hbm, 34, rfl⟩
abbrev main_c_6 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_7 : Ref sig .tc := ⟨.hbm, 39, rfl⟩
abbrev main_v14 : Ref sig .tc := ⟨.hbm, 40, rfl⟩
abbrev main_c_8 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_9 : Ref sig .tc := ⟨.hbm, 46, rfl⟩
abbrev main_v19 : Ref sig .tc := ⟨.hbm, 47, rfl⟩
abbrev main_c_10 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_11 : Ref sig .tc := ⟨.hbm, 52, rfl⟩
abbrev main_v23 : Ref sig .tc := ⟨.hbm, 53, rfl⟩
abbrev main_c_12 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_13 : Ref sig .tc := ⟨.hbm, 58, rfl⟩
abbrev main_v27 : Ref sig .tc := ⟨.hbm, 59, rfl⟩
abbrev main_c_14 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x6x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x64x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1024x3 : Shape := ⟨2, ![1024, 3]⟩
abbrev S3 : Shape := ⟨1, ![3]⟩
abbrev S3x64 : Shape := ⟨2, ![3, 64]⟩
abbrev S64 : Shape := ⟨1, ![64]⟩
abbrev S64x1 : Shape := ⟨2, ![64, 1]⟩
abbrev S1 : Shape := ⟨1, ![1]⟩
abbrev S6x64 : Shape := ⟨2, ![6, 64]⟩
abbrev S64x8 : Shape := ⟨2, ![64, 8]⟩
abbrev S8 : Shape := ⟨1, ![8]⟩
abbrev S8x6x64 : Shape := ⟨3, ![8, 6, 64]⟩
abbrev S8x64 : Shape := ⟨2, ![8, 64]⟩
abbrev S8x64x4 : Shape := ⟨3, ![8, 64, 4]⟩
abbrev S8x4 : Shape := ⟨2, ![8, 4]⟩
abbrev S_ : Shape := ⟨0, ![]⟩
abbrev S1024 : Shape := ⟨1, ![1024]⟩
abbrev S1024x1 : Shape := ⟨2, ![1024, 1]⟩
abbrev S128 : Shape := ⟨1, ![128]⟩
abbrev S1024x1x3 : Shape := ⟨3, ![1024, 1, 3]⟩
abbrev S1x128x1 : Shape := ⟨3, ![1, 128, 1]⟩
abbrev S1024x128x3 : Shape := ⟨3, ![1024, 128, 3]⟩
abbrev S1024x128 : Shape := ⟨2, ![1024, 128]⟩
abbrev S1024x128x64 : Shape := ⟨3, ![1024, 128, 64]⟩
abbrev S1x1x64 : Shape := ⟨3, ![1, 1, 64]⟩
abbrev S1024x128x1 : Shape := ⟨3, ![1024, 128, 1]⟩
abbrev S1x1x1 : Shape := ⟨3, ![1, 1, 1]⟩
abbrev S129 : Shape := ⟨1, ![129]⟩
abbrev S1x128 : Shape := ⟨2, ![1, 128]⟩
abbrev S129x1 : Shape := ⟨2, ![129, 1]⟩
abbrev S129x128 : Shape := ⟨2, ![129, 128]⟩
abbrev S1024x1x128 : Shape := ⟨3, ![1024, 1, 128]⟩
abbrev S1024x129x128 : Shape := ⟨3, ![1024, 129, 128]⟩
abbrev S1024x129x64 : Shape := ⟨3, ![1024, 129, 64]⟩
abbrev S1024x129x32 : Shape := ⟨3, ![1024, 129, 32]⟩
abbrev S1024x129x16 : Shape := ⟨3, ![1024, 129, 16]⟩
abbrev S1024x129x8 : Shape := ⟨3, ![1024, 129, 8]⟩
abbrev S1024x129x4 : Shape := ⟨3, ![1024, 129, 4]⟩
abbrev S1024x129x2 : Shape := ⟨3, ![1024, 129, 2]⟩
abbrev S1024x129x1 : Shape := ⟨3, ![1024, 129, 1]⟩
abbrev S1024x129 : Shape := ⟨2, ![1024, 129]⟩
abbrev S1024x128x6 : Shape := ⟨3, ![1024, 128, 6]⟩
abbrev S1024x128x8 : Shape := ⟨3, ![1024, 128, 8]⟩
abbrev S1x1x8 : Shape := ⟨3, ![1, 1, 8]⟩
abbrev S1024x128x2 : Shape := ⟨3, ![1024, 128, 2]⟩
abbrev S1024x128x2x1 : Shape := ⟨4, ![1024, 128, 2, 1]⟩
abbrev S1x1x1x8 : Shape := ⟨4, ![1, 1, 1, 8]⟩
abbrev S1024x128x2x8 : Shape := ⟨4, ![1024, 128, 2, 8]⟩
abbrev S1024x128x8x64 : Shape := ⟨4, ![1024, 128, 8, 64]⟩
abbrev S1x1x8x64 : Shape := ⟨4, ![1, 1, 8, 64]⟩
abbrev S8x4x1024x128 : Shape := ⟨4, ![8, 4, 1024, 128]⟩
abbrev S1024x128x8x4 : Shape := ⟨4, ![1024, 128, 8, 4]⟩
abbrev S1x1x8x4 : Shape := ⟨4, ![1, 1, 8, 4]⟩
abbrev S1024x128x8x3 : Shape := ⟨4, ![1024, 128, 8, 3]⟩
abbrev S1024x128x8x1 : Shape := ⟨4, ![1024, 128, 8, 1]⟩
abbrev S1x3 : Shape := ⟨2, ![1, 3]⟩

abbrev nBuf : Space → Nat
  | .hbm => 305
  | .vmem => 0
  | .smem => 0
  | _ => 0

abbrev hbmTy0_0 (i : Nat) : BufTy := match i % 128 with
  | 0 => ⟨S1024x3, .f32⟩
  | 1 => ⟨S1024x3, .f32⟩
  | 2 => ⟨S1024x3, .f32⟩
  | 3 => ⟨S3, .f32⟩
  | 4 => ⟨S3x64, .f32⟩
  | 5 => ⟨S64, .f32⟩
  | 6 => ⟨S64x1, .f32⟩
  | 7 => ⟨S1, .f32⟩
  | 8 => ⟨S6x64, .f32⟩
  | 9 => ⟨S64, .f32⟩
  | 10 => ⟨S64x8, .f32⟩
  | 11 => ⟨S8, .f32⟩
  | 12 => ⟨S8x6x64, .f32⟩
  | 13 => ⟨S8x64, .f32⟩
  | 14 => ⟨S8x64x4, .f32⟩
  | 15 => ⟨S8x4, .f32⟩
  | 16 => ⟨S1024x3, .f32⟩
  | 17 => ⟨S_, .f32⟩
  | 18 => ⟨S1024, .f32⟩
  | 19 => ⟨S1024x1, .f32⟩
  | 20 => ⟨S1024x1, .f32⟩
  | 21 => ⟨S_, .f32⟩
  | 22 => ⟨S1024x1, .f32⟩
  | 23 => ⟨S1024x1, .f32⟩
  | 24 => ⟨S1024x3, .f32⟩
  | 25 => ⟨S1024x3, .f32⟩
  | 26 => ⟨S128, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S_, .f32⟩
  | 34 => ⟨S128, .f32⟩
  | 35 => ⟨S128, .f32⟩
  | 36 => ⟨S1024x1x3, .f32⟩
  | 37 => ⟨S1024x1x3, .f32⟩
  | 38 => ⟨S1x128x1, .f32⟩
  | 39 => ⟨S1024x128x3, .f32⟩
  | 40 => ⟨S1024x128x3, .f32⟩
  | 41 => ⟨S1024x128x3, .f32⟩
  | 42 => ⟨S1024x128x3, .f32⟩
  | 43 => ⟨S1024x128x3, .f32⟩
  | 44 => ⟨S_, .f32⟩
  | 45 => ⟨S1024x128x3, .f32⟩
  | 46 => ⟨S1024x128x3, .i1⟩
  | 47 => ⟨S_, .f32⟩
  | 48 => ⟨S1024x128x3, .f32⟩
  | 49 => ⟨S1024x128x3, .i1⟩
  | 50 => ⟨S1024x128x3, .i1⟩
  | 51 => ⟨S_, .i1⟩
  | 52 => ⟨S1024x128, .i1⟩
  | 53 => ⟨S1024x128x64, .f32⟩
  | 54 => ⟨S1x1x64, .f32⟩
  | 55 => ⟨S1024x128x64, .f32⟩
  | 56 => ⟨S1024x128x64, .f32⟩
  | 57 => ⟨S_, .f32⟩
  | 58 => ⟨S1024x128x64, .f32⟩
  | 59 => ⟨S1024x128x64, .f32⟩
  | 60 => ⟨S1024x128x1, .f32⟩
  | 61 => ⟨S1x1x1, .f32⟩
  | 62 => ⟨S1024x128x1, .f32⟩
  | 63 => ⟨S1024x128x1, .f32⟩
  | 64 => ⟨S1024x128, .f32⟩
  | 65 => ⟨S_, .f32⟩
  | 66 => ⟨S1024x128, .f32⟩
  | 67 => ⟨S1024x128, .f32⟩
  | 68 => ⟨S_, .f32⟩
  | 69 => ⟨S1024x128, .f32⟩
  | 70 => ⟨S1024x128, .f32⟩
  | 71 => ⟨S1024x128, .f32⟩
  | 72 => ⟨S1024x128, .f32⟩
  | 73 => ⟨S1024x128, .i1⟩
  | 74 => ⟨S1024x128, .f32⟩
  | 75 => ⟨S1024x128, .f32⟩
  | 76 => ⟨S1024x128, .f32⟩
  | 77 => ⟨S1024x128, .f32⟩
  | 78 => ⟨S1024x128, .f32⟩
  | 79 => ⟨S1024x128, .f32⟩
  | 80 => ⟨S1024x128, .f32⟩
  | 81 => ⟨S1024x128, .f32⟩
  | 82 => ⟨S1024x128, .f32⟩
  | 83 => ⟨S_, .f32⟩
  | 84 => ⟨S1024x128, .f32⟩
  | 85 => ⟨S1024x128, .f32⟩
  | 86 => ⟨S1024x128, .f32⟩
  | 87 => ⟨S_, .f32⟩
  | 88 => ⟨S1024x128, .f32⟩
  | 89 => ⟨S1024x128, .f32⟩
  | 90 => ⟨S_, .f32⟩
  | 91 => ⟨S_, .f32⟩
  | 92 => ⟨S1024x128, .f32⟩
  | 93 => ⟨S1024x128, .f32⟩
  | 94 => ⟨S_, .f32⟩
  | 95 => ⟨S1024x128, .f32⟩
  | 96 => ⟨S1024x128, .i1⟩
  | 97 => ⟨S_, .f32⟩
  | 98 => ⟨S_, .f32⟩
  | 99 => ⟨S1024x128, .f32⟩
  | 100 => ⟨S1024x128, .f32⟩
  | 101 => ⟨S128, .i32⟩
  | 102 => ⟨S129, .i32⟩
  | 103 => ⟨S1x128, .i32⟩
  | 104 => ⟨S129x1, .i32⟩
  | 105 => ⟨S129x128, .i32⟩
  | 106 => ⟨S129x128, .i32⟩
  | 107 => ⟨S129x128, .i1⟩
  | 108 => ⟨S_, .f32⟩
  | 109 => ⟨S1024x128, .f32⟩
  | 110 => ⟨S1024x128, .f32⟩
  | 111 => ⟨S1024x1x128, .f32⟩
  | 112 => ⟨S_, .f32⟩
  | 113 => ⟨S_, .f32⟩
  | 114 => ⟨S1024x129x128, .i1⟩
  | 115 => ⟨S1024x129x128, .f32⟩
  | 116 => ⟨S1024x129x128, .f32⟩
  | 117 => ⟨S1024x129x128, .f32⟩
  | 118 => ⟨S1024x129x64, .f32⟩
  | 119 => ⟨S1024x129x64, .f32⟩
  | 120 => ⟨S1024x129x64, .f32⟩
  | 121 => ⟨S1024x129x32, .f32⟩
  | 122 => ⟨S1024x129x32, .f32⟩
  | 123 => ⟨S1024x129x32, .f32⟩
  | 124 => ⟨S1024x129x16, .f32⟩
  | 125 => ⟨S1024x129x16, .f32⟩
  | 126 => ⟨S1024x129x16, .f32⟩
  | 127 => ⟨S1024x129x8, .f32⟩
  | _ => ⟨S1024x3, .f32⟩

abbrev hbmTy0_1 (i : Nat) : BufTy := match i % 128 with
  | 0 => ⟨S1024x129x8, .f32⟩
  | 1 => ⟨S1024x129x8, .f32⟩
  | 2 => ⟨S1024x129x4, .f32⟩
  | 3 => ⟨S1024x129x4, .f32⟩
  | 4 => ⟨S1024x129x4, .f32⟩
  | 5 => ⟨S1024x129x2, .f32⟩
  | 6 => ⟨S1024x129x2, .f32⟩
  | 7 => ⟨S1024x129x2, .f32⟩
  | 8 => ⟨S1024x129x1, .f32⟩
  | 9 => ⟨S1024x129x1, .f32⟩
  | 10 => ⟨S1024x129x1, .f32⟩
  | 11 => ⟨S1024x129, .f32⟩
  | 12 => ⟨S1024x128, .f32⟩
  | 13 => ⟨S1024x128, .f32⟩
  | 14 => ⟨S_, .f32⟩
  | 15 => ⟨S1024x128, .f32⟩
  | 16 => ⟨S1024x128, .i1⟩
  | 17 => ⟨S1024x128, .i1⟩
  | 18 => ⟨S1024x128, .i1⟩
  | 19 => ⟨S1024x128, .f32⟩
  | 20 => ⟨S1024x1x3, .f32⟩
  | 21 => ⟨S1024x128x3, .f32⟩
  | 22 => ⟨S1024x128x6, .f32⟩
  | 23 => ⟨S1024x128x64, .f32⟩
  | 24 => ⟨S1x1x64, .f32⟩
  | 25 => ⟨S1024x128x64, .f32⟩
  | 26 => ⟨S1024x128x64, .f32⟩
  | 27 => ⟨S_, .f32⟩
  | 28 => ⟨S1024x128x64, .f32⟩
  | 29 => ⟨S1024x128x64, .f32⟩
  | 30 => ⟨S1024x128x8, .f32⟩
  | 31 => ⟨S1x1x8, .f32⟩
  | 32 => ⟨S1024x128x8, .f32⟩
  | 33 => ⟨S1024x128x8, .f32⟩
  | 34 => ⟨S_, .f32⟩
  | 35 => ⟨S1024x128, .f32⟩
  | 36 => ⟨S_, .f32⟩
  | 37 => ⟨S1024x128, .f32⟩
  | 38 => ⟨S1024x128, .f32⟩
  | 39 => ⟨S1024x128x1, .f32⟩
  | 40 => ⟨S1024x128x8, .f32⟩
  | 41 => ⟨S1024x128x8, .f32⟩
  | 42 => ⟨S1024x128x8, .f32⟩
  | 43 => ⟨S_, .f32⟩
  | 44 => ⟨S1024x128, .f32⟩
  | 45 => ⟨S1024x128x1, .f32⟩
  | 46 => ⟨S1024x128x8, .f32⟩
  | 47 => ⟨S1024x128x8, .f32⟩
  | 48 => ⟨S1024x128x2, .f32⟩
  | 49 => ⟨S1024x128x2, .i32⟩
  | 50 => ⟨S_, .f32⟩
  | 51 => ⟨S1024x128, .f32⟩
  | 52 => ⟨S1024x128x1, .f32⟩
  | 53 => ⟨S1024x128x2, .f32⟩
  | 54 => ⟨S1024x128x2, .f32⟩
  | 55 => ⟨S1024x128x2x1, .i32⟩
  | 56 => ⟨S1x1x1x8, .i32⟩
  | 57 => ⟨S1024x128x2x8, .i32⟩
  | 58 => ⟨S1024x128x2x8, .i32⟩
  | 59 => ⟨S1024x128x2x8, .i1⟩
  | 60 => ⟨S1024x128x2x8, .f32⟩
  | 61 => ⟨S1024x128x2x1, .f32⟩
  | 62 => ⟨S1024x128x2x8, .f32⟩
  | 63 => ⟨S1024x128x2x8, .f32⟩
  | 64 => ⟨S_, .f32⟩
  | 65 => ⟨S1024x128x8, .f32⟩
  | 66 => ⟨S1024x128x8x64, .f32⟩
  | 67 => ⟨S1x1x8x64, .f32⟩
  | 68 => ⟨S1024x128x8x64, .f32⟩
  | 69 => ⟨S1024x128x8x64, .f32⟩
  | 70 => ⟨S_, .f32⟩
  | 71 => ⟨S1024x128x8x64, .f32⟩
  | 72 => ⟨S1024x128x8x64, .f32⟩
  | 73 => ⟨S8x4x1024x128, .f32⟩
  | 74 => ⟨S1024x128x8x4, .f32⟩
  | 75 => ⟨S1x1x8x4, .f32⟩
  | 76 => ⟨S1024x128x8x4, .f32⟩
  | 77 => ⟨S1024x128x8x4, .f32⟩
  | 78 => ⟨S1024x128x1, .f32⟩
  | 79 => ⟨S1024x128x8, .f32⟩
  | 80 => ⟨S1024x128x8, .f32⟩
  | 81 => ⟨S1024x128x8x3, .f32⟩
  | 82 => ⟨S1024x128x8x3, .f32⟩
  | 83 => ⟨S1024x128x8x3, .f32⟩
  | 84 => ⟨S_, .f32⟩
  | 85 => ⟨S1024x128x8x3, .f32⟩
  | 86 => ⟨S1024x128x8x3, .f32⟩
  | 87 => ⟨S_, .f32⟩
  | 88 => ⟨S1024x128x8x3, .f32⟩
  | 89 => ⟨S1024x128x8x3, .f32⟩
  | 90 => ⟨S1024x128x8x1, .f32⟩
  | 91 => ⟨S1024x128x8x3, .f32⟩
  | 92 => ⟨S1024x128x8x3, .f32⟩
  | 93 => ⟨S_, .f32⟩
  | 94 => ⟨S1024x128x3, .f32⟩
  | 95 => ⟨S1024x128x8x1, .f32⟩
  | 96 => ⟨S1024x128x8, .f32⟩
  | 97 => ⟨S_, .f32⟩
  | 98 => ⟨S1024x128x8, .f32⟩
  | 99 => ⟨S1024x128x8, .f32⟩
  | 100 => ⟨S_, .f32⟩
  | 101 => ⟨S1024x128x8, .f32⟩
  | 102 => ⟨S1024x128x8, .f32⟩
  | 103 => ⟨S1024x128x8, .f32⟩
  | 104 => ⟨S1024x128x8, .f32⟩
  | 105 => ⟨S1024x128x8, .i1⟩
  | 106 => ⟨S1024x128x8, .f32⟩
  | 107 => ⟨S1024x128x8, .f32⟩
  | 108 => ⟨S1024x128x8, .f32⟩
  | 109 => ⟨S1024x128x8, .f32⟩
  | 110 => ⟨S1024x128x8, .f32⟩
  | 111 => ⟨S1024x128x8, .f32⟩
  | 112 => ⟨S1024x128x8, .f32⟩
  | 113 => ⟨S1024x128x8, .f32⟩
  | 114 => ⟨S1024x128x8, .f32⟩
  | 115 => ⟨S_, .f32⟩
  | 116 => ⟨S1024x128x8, .f32⟩
  | 117 => ⟨S1024x128x8, .f32⟩
  | 118 => ⟨S1024x128x8, .f32⟩
  | 119 => ⟨S_, .f32⟩
  | 120 => ⟨S1024x128x8, .f32⟩
  | 121 => ⟨S1024x128x8, .f32⟩
  | 122 => ⟨S1024x128x8, .f32⟩
  | 123 => ⟨S_, .f32⟩
  | 124 => ⟨S1024x128, .f32⟩
  | 125 => ⟨S128, .i32⟩
  | 126 => ⟨S129, .i32⟩
  | 127 => ⟨S1x128, .i32⟩
  | _ => ⟨S1024x3, .f32⟩

abbrev hbmTy0_2 (i : Nat) : BufTy := match i % 128 with
  | 0 => ⟨S129x1, .i32⟩
  | 1 => ⟨S129x128, .i32⟩
  | 2 => ⟨S129x128, .i32⟩
  | 3 => ⟨S129x128, .i1⟩
  | 4 => ⟨S_, .f32⟩
  | 5 => ⟨S1024x128, .f32⟩
  | 6 => ⟨S1024x128, .f32⟩
  | 7 => ⟨S1024x1x128, .f32⟩
  | 8 => ⟨S_, .f32⟩
  | 9 => ⟨S_, .f32⟩
  | 10 => ⟨S1024x129x128, .i1⟩
  | 11 => ⟨S1024x129x128, .f32⟩
  | 12 => ⟨S1024x129x128, .f32⟩
  | 13 => ⟨S1024x129x128, .f32⟩
  | 14 => ⟨S1024x129x64, .f32⟩
  | 15 => ⟨S1024x129x64, .f32⟩
  | 16 => ⟨S1024x129x64, .f32⟩
  | 17 => ⟨S1024x129x32, .f32⟩
  | 18 => ⟨S1024x129x32, .f32⟩
  | 19 => ⟨S1024x129x32, .f32⟩
  | 20 => ⟨S1024x129x16, .f32⟩
  | 21 => ⟨S1024x129x16, .f32⟩
  | 22 => ⟨S1024x129x16, .f32⟩
  | 23 => ⟨S1024x129x8, .f32⟩
  | 24 => ⟨S1024x129x8, .f32⟩
  | 25 => ⟨S1024x129x8, .f32⟩
  | 26 => ⟨S1024x129x4, .f32⟩
  | 27 => ⟨S1024x129x4, .f32⟩
  | 28 => ⟨S1024x129x4, .f32⟩
  | 29 => ⟨S1024x129x2, .f32⟩
  | 30 => ⟨S1024x129x2, .f32⟩
  | 31 => ⟨S1024x129x2, .f32⟩
  | 32 => ⟨S1024x129x1, .f32⟩
  | 33 => ⟨S1024x129x1, .f32⟩
  | 34 => ⟨S1024x129x1, .f32⟩
  | 35 => ⟨S1024x129, .f32⟩
  | 36 => ⟨S1024x128, .f32⟩
  | 37 => ⟨S1024x128, .f32⟩
  | 38 => ⟨S1024x128x1, .f32⟩
  | 39 => ⟨S1024x128x3, .f32⟩
  | 40 => ⟨S1024x128x3, .f32⟩
  | 41 => ⟨S_, .f32⟩
  | 42 => ⟨S1024x3, .f32⟩
  | 43 => ⟨S1024x1, .f32⟩
  | 44 => ⟨S1x3, .f32⟩
  | 45 => ⟨S1024x3, .f32⟩
  | 46 => ⟨S1024x3, .f32⟩
  | 47 => ⟨S1024x3, .f32⟩
  | 48 => ⟨S1024x3, .f32⟩
  | _ => ⟨S1024x3, .f32⟩

abbrev hbmTy (i : Nat) : BufTy := match i / 128 with
  | 0 => hbmTy0_0 i
  | 1 => hbmTy0_1 i
  | 2 => hbmTy0_2 i
  | _ => ⟨S1024x3, .f32⟩

abbrev bufTy : (tb : Table) → Fin (tcTables nBuf tb) → BufTy
  | .hbm, ⟨i, _⟩ => hbmTy i
  | _, _ => ⟨S1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call1_cst : Ref sig .tc := ⟨.hbm, 57, rfl⟩
abbrev main_call1_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_5 : Ref sig .tc := ⟨.hbm, 65, rfl⟩
abbrev main_v36 : Ref sig .tc := ⟨.hbm, 66, rfl⟩
abbrev main_v37 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_v38 : Ref sig .tc := ⟨.hbm, 81, rfl⟩
abbrev main_v39 : Ref sig .tc := ⟨.hbm, 82, rfl⟩
abbrev main_cst_6 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_7 : Ref sig .tc := ⟨.hbm, 87, rfl⟩
abbrev main_v43 : Ref sig .tc := ⟨.hbm, 88, rfl⟩
abbrev main_v44 : Ref sig .tc := ⟨.hbm, 89, rfl⟩
abbrev main_cst_8 : Ref sig .tc := ⟨.hbm, 90, rfl⟩
abbrev main_call3_v0 : Ref sig .tc := ⟨.hbm, 91, rfl⟩
abbrev main_call3_v1 : Ref sig .tc := ⟨.hbm, 92, rfl⟩
abbrev main_v45 : Ref sig .tc := ⟨.hbm, 93, rfl⟩
abbrev main_cst_9 : Ref sig .tc := ⟨.hbm, 94, rfl⟩
abbrev main_v46 : Ref sig .tc := ⟨.hbm, 95, rfl⟩
abbrev main_v47 : Ref sig .tc := ⟨.hbm, 96, rfl⟩
abbrev main_cst_10 : Ref sig .tc := ⟨.hbm, 97, rfl⟩
abbrev main_call4_v0 : Ref sig .tc := ⟨.hbm, 98, rfl⟩
abbrev main_call4_v1 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_11 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_12 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_cst_13 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_call6_cst : Ref sig .tc := ⟨.hbm, 155, rfl⟩
abbrev main_call6_v0 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_14 : Ref sig .tc := ⟨.hbm, 162, rfl⟩
abbrev main_v101 : Ref sig .tc := ⟨.hbm, 163, rfl⟩
abbrev main_cst_15 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_cst_16 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_values : Ref sig .tc := ⟨.hbm, 176, rfl⟩
abbrev main_indices : Ref sig .tc := ⟨.hbm, 177, rfl⟩
abbrev main_cst_17 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_call7_v0 : Ref sig .tc := ⟨.hbm, 183, rfl⟩
abbrev main_call7_v1 : Ref sig .tc := ⟨.hbm, 184, rfl⟩
abbrev main_call7_v2 : Ref sig .tc := ⟨.hbm, 185, rfl⟩
abbrev main_call7_v3 : Ref sig .tc := ⟨.hbm, 186, rfl⟩
abbrev main_call7_v4 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_cst_18 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_call8_cst : Ref sig .tc := ⟨.hbm, 198, rfl⟩
abbrev main_call8_v0 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_cst_19 : Ref sig .tc := ⟨.hbm, 212, rfl⟩
abbrev main_v137 : Ref sig .tc := ⟨.hbm, 213, rfl⟩
abbrev main_v138 : Ref sig .tc := ⟨.hbm, 214, rfl⟩
abbrev main_cst_20 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_cst_21 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_cst_22 : Ref sig .tc := ⟨.hbm, 225, rfl⟩
abbrev main_v147 : Ref sig .tc := ⟨.hbm, 226, rfl⟩
abbrev main_v148 : Ref sig .tc := ⟨.hbm, 227, rfl⟩
abbrev main_call9_cst : Ref sig .tc := ⟨.hbm, 228, rfl⟩
abbrev main_call9_v0 : Ref sig .tc := ⟨.hbm, 229, rfl⟩
abbrev main_call9_v1 : Ref sig .tc := ⟨.hbm, 230, rfl⟩
abbrev main_call9_v2 : Ref sig .tc := ⟨.hbm, 231, rfl⟩
abbrev main_call9_v3 : Ref sig .tc := ⟨.hbm, 232, rfl⟩
abbrev main_call9_v4 : Ref sig .tc := ⟨.hbm, 233, rfl⟩
abbrev main_call9_v5 : Ref sig .tc := ⟨.hbm, 234, rfl⟩
abbrev main_call9_v6 : Ref sig .tc := ⟨.hbm, 235, rfl⟩
abbrev main_call9_v7 : Ref sig .tc := ⟨.hbm, 236, rfl⟩
abbrev main_call9_v8 : Ref sig .tc := ⟨.hbm, 237, rfl⟩
abbrev main_call9_v9 : Ref sig .tc := ⟨.hbm, 238, rfl⟩
abbrev main_call9_v10 : Ref sig .tc := ⟨.hbm, 239, rfl⟩
abbrev main_call9_v11 : Ref sig .tc := ⟨.hbm, 240, rfl⟩
abbrev main_v149 : Ref sig .tc := ⟨.hbm, 241, rfl⟩
abbrev main_v150 : Ref sig .tc := ⟨.hbm, 242, rfl⟩
abbrev main_cst_23 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_cst_24 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_cst_25 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_cst_26 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_cst_27 : Ref sig .tc := ⟨.hbm, 264, rfl⟩
abbrev main_call10_v0 : Ref sig .tc := ⟨.hbm, 265, rfl⟩
abbrev main_call10_v1 : Ref sig .tc := ⟨.hbm, 266, rfl⟩
abbrev main_call10_v2 : Ref sig .tc := ⟨.hbm, 267, rfl⟩
abbrev main_call10_v3 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_cst_28 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩

abbrev nD : Nat := 1
abbrev τ : Topo := Topo.v7x

variable {F : FTy → Type} [FloatOps F]
-- ==== Proof.Frames.lean ====
/-
  The claims that every program runs, leaves its arguments as they were and ends quiet, and that the one named constant
  of the kernel denotes what it stands for. The runs themselves are the generated ones.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The kernel as printed runs and ends quiet. -/
theorem frame_p : Cert.quiescent_Kernel := fun m ρ _ => Cert.Kernel.Gen.frame m ρ

/-- The idealized kernel runs and ends quiet. -/
theorem frame_pi : Cert.quiescent_KernelIdeal := fun m ρ _ => Cert.KernelIdeal.Gen.frame m ρ

/-- The idealized reference runs and ends quiet: it signals no semaphore at all. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named mask constant denotes minus infinity at the ideal reading. -/
theorem preserves : Cert.preserves_Kernel_KernelIdeal :=
  IdealRules.named_const.statement Cert.KernelIdeal.κ "mask" .f32 0xF149F2CA#32 (⊥ : EReal) rfl

end Cert.Proof

end
-- ==== Proof.Kernel.Stages.lean ====
/-
  The block of 64 rays that the kernel's body computes four times per grid point, cut into stages: each stage is a
  function of vectors, written with the operations the body is printed with. `blk` is the whole of it, from the
  block's slices of the rays and the packed weights to the 64 pixel colours.
-/
module

public import proofs.«01_k».proof.Proof.Gen.KernelIdeal.Skeleton

@[expose] public section

set_option maxRecDepth 16384

noncomputable section

namespace Cert.KernelIdeal.Stage

open Idealize.ShloMosaic Idealize.SL.Sem Cert.KernelIdeal Cert.KernelIdeal.Gen

variable {F : FTy → Type} [FloatOps F] [Named F]

/-- A vector of 64 rays by 128 steps, all of one value. -/
def cst (b : BitVec 32) : FVec F S64x128 .f32 := broadcast S64x128 (Scalar.ofBits .f32 b : F .f32)

/-- The step number of each lane. -/
def lane : IVec S64x128 32 := iota .tc S64x128 32 [1] iota_S64x128_d1_w32

/-- The sample points' coordinates and view directions of a block (rows 0 to 5), a row of zeros and a row of ones:
    one product of the rays' columns with the constant table `ss`. -/
def feat (v7 : FVec F S16x64 .f32) (v28 : Vec F S128x8192 .bf16) : FVec F S8x8192 .bf16 :=
  let v8 : FVec F S3x64 .f32 := extractStridedSlice S3x64 ![0, 0] v7 slices_S16x64_o0_0_S3x64
  let v9 : FVec F S3x64 .f32 := extractStridedSlice S3x64 ![3, 0] v7 slices_S16x64_o3_0_S3x64
  let v10 : FVec F S3x64 .f32 := extractStridedSlice S3x64 ![6, 0] v7 slices_S16x64_o6_0_S3x64
  let v11 : FVec F S3x64 .f32 := mulf v9 v9
  let v12 : FVec F S64 .f32 := multiReduction .add [0] S64 v11 0x00000000#32 reduces_S3x64_S64 (.inl rfl) rfl
  let v13 : FVec F S1x64 .f32 := shapeCast S1x64 v12 shapeCasts_S64_S1x64
  let v14 : FVec F S1x64 .f32 := sqrt v13
  let v16 : FVec F S1x64 .f32 := addf v14 (broadcast S1x64 (Scalar.ofBits .f32 0x322BCC77#32))
  let v18 : FVec F S1x64 .f32 := divf (broadcast S1x64 (Scalar.ofBits .f32 0x3F800000#32)) v16
  let v19 : FVec F S1x64 .f32 := broadcast S1x64 (Scalar.ofBits .f32 0x00000000#32)
  let v21 : FVec F S1x64 .f32 := addf v19 (broadcast S1x64 (Scalar.ofBits .f32 0x3F800000#32))
  let v22 : FVec F S8x64 .f32 := concatenate S8x64 0 [⟨S3x64, v8⟩, ⟨S3x64, v10⟩, ⟨S1x64, v19⟩, ⟨S1x64, v21⟩] concatenates_S3x64_S3x64_S1x64_S1x64_S8x64_d0
  let v24 : FVec F S3x64 .f32 := mulf v9 (broadcastTo S3x64 v18 broadcasts_S1x64_S3x64)
  let v25 : FVec F S8x64 .f32 := concatenate S8x64 0 [⟨S3x64, v24⟩, ⟨S1x64, v19⟩, ⟨S1x64, v19⟩, ⟨S1x64, v19⟩, ⟨S1x64, v19⟩, ⟨S1x64, v19⟩] concatenates_S3x64_S1x64_S1x64_S1x64_S1x64_S1x64_S8x64_d0
  let v26 : FVec F S8x128 .f32 := concatenate S8x128 1 [⟨S8x64, v22⟩, ⟨S8x64, v25⟩] concatenates_S8x64_S8x64_S8x128_d1
  let v27 : FVec F S8x128 .bf16 := truncf .bf16 v26 bitsLt_bf16_f32
  let v29 : FVec F S128x8192 .bf16 := shapeCast S128x8192 v28 shapeCasts_S128x8192_S128x8192
  let v30 : FVec F S8x8192 .f32 := matmul dot_S8x128_S128x8192_S8x8192_1_0_0_1_n_n none v27 v29 (constant S8x8192 .f32 0x00000000#32)
  truncf .bf16 v30 bitsLt_bf16_f32

/-- The density network: row 0 holds the density before its activation. -/
def dens (w1 : FVec F S8x72 .bf16) (w2 : FVec F S72x8 .bf16) (f : FVec F S8x8192 .bf16) : FVec F S8x8192 .f32 :=
  matmul dot_S72x8_S72x8192_S8x8192_0_0_1_1_n_n none w2
    (truncf .bf16 (maximumf (matmul dot_S8x72_S8x8192_S72x8192_0_0_1_1_n_n none w1 f (constant S72x8192 .f32 0x00000000#32))
      (broadcast S72x8192 (Scalar.ofBits .f32 0x00000000#32))) bitsLt_bf16_f32)
    (constant S8x8192 .f32 0x00000000#32)

/-- The gate and the eight experts in one: rows 0 to 7 are the gate's logits, row `8 + 4e + c` is output `c` of expert `e`. -/
def outr (w1 : FVec F S8x584 .bf16) (w2 : FVec F S584x40 .bf16) (f : FVec F S8x8192 .bf16) : FVec F S40x8192 .f32 :=
  matmul dot_S584x40_S584x8192_S40x8192_0_0_1_1_n_n none w2
    (truncf .bf16 (maximumf (matmul dot_S8x584_S8x8192_S584x8192_0_0_1_1_n_n none w1 f (constant S584x8192 .f32 0x00000000#32))
      (broadcast S584x8192 (Scalar.ofBits .f32 0x00000000#32))) bitsLt_bf16_f32)
    (constant S40x8192 .f32 0x00000000#32)

/-- One over (the direction's length plus a small number). -/
def inv (v46 : FVec F S64x16 .f32) : FVec F S64x1 .f32 :=
  let v47 : FVec F S64x3 .f32 := extractStridedSlice S64x3 ![0, 3] v46 slices_S64x16_o0_3_S64x3
  let v50 : FVec F S64 .f32 := multiReduction .add [1] S64 (mulf v47 v47) 0x00000000#32 reduces_S64x3_S64 (.inl rfl) rfl
  let v51 : FVec F S64x1 .f32 := shapeCast S64x1 v50 shapeCasts_S64_S64x1
  divf (broadcast S64x1 (Scalar.ofBits .f32 0x3F800000#32)) (addf (sqrt v51) (broadcast S64x1 (Scalar.ofBits .f32 0x322BCC77#32)))

/-- The distance of each step along a ray. -/
def dist : FVec F S64x128 .f32 :=
  addf (cst 0x3E4CCCCD#32) (mulf (cst 0x3BA3D70A#32) (addf (sitofp .f32 lane) (cst 0x3F000000#32)))

/-- Whether one coordinate of a sample point lies in [-1, 1], from the columns of the origin and the direction. -/
def inCoord (o d : FVec F S64x1 .f32) (i : FVec F S64x1 .f32) : IVec S64x128 1 :=
  let p : FVec F S64x128 .f32 := addf (broadcastTo S64x128 o broadcasts_S64x1_S64x128)
    (mulf (broadcastTo S64x128 (mulf d i) broadcasts_S64x1_S64x128) dist)
  andi (cmpf .oge p (cst 0xBF800000#32)) (cmpf .ole p (cst 0x3F800000#32))

/-- Whether a sample point lies in the box. -/
def inb (v46 : FVec F S64x16 .f32) : IVec S64x128 1 :=
  andi (andi
    (inCoord (extractStridedSlice S64x1 ![0, 0] v46 slices_S64x16_o0_0_S64x1) (extractStridedSlice S64x1 ![0, 3] v46 slices_S64x16_o0_3_S64x1) (inv v46))
    (inCoord (extractStridedSlice S64x1 ![0, 1] v46 slices_S64x16_o0_1_S64x1) (extractStridedSlice S64x1 ![0, 4] v46 slices_S64x16_o0_4_S64x1) (inv v46)))
    (inCoord (extractStridedSlice S64x1 ![0, 2] v46 slices_S64x16_o0_2_S64x1) (extractStridedSlice S64x1 ![0, 5] v46 slices_S64x16_o0_5_S64x1) (inv v46))

/-- Opacity from raw density: `1 - exp (-softplus (x - 4) / 2)`, the softplus cut off at 20. -/
def toAlpha (x : FVec F S64x128 .f32) : FVec F S64x128 .f32 :=
  let y := addf x (cst 0xC0800000#32)
  let sp := select (cmpf .ogt y (cst 0x41A00000#32)) y (log1p (exp (minimumf y (cst 0x41A00000#32))))
  subf (cst 0x3F800000#32) (exp (mulf (subf (cst 0x00000000#32) sp) (cst 0x3F000000#32)))

/-- The opacity a point has from the density network, 0 outside the box. -/
def alpha0 (b : IVec S64x128 1) (d : FVec F S8x8192 .f32) : FVec F S64x128 .f32 :=
  let v103 : FVec F S8x64x128 .f32 := shapeCast S8x64x128 d shapeCasts_S8x8192_S8x64x128
  select b (toAlpha (shapeCast S64x128 (extractStridedSlice S1x64x128 ![0, 0, 0] v103 slices_S8x64x128_o0_0_0_S1x64x128) shapeCasts_S1x64x128_S64x128)) (cst 0x00000000#32)

/-- One doubling step of a running product along the lanes. -/
def scanStep (k : BitVec 32) (x : FVec F S64x128 .f32) : FVec F S64x128 .f32 :=
  mulf x (select (cmpi .slt lane (broadcast S64x128 k)) (cst 0x3F800000#32) (dynamicRotate 1 k none x rotates_S64x128_d1))

/-- The running product along the lanes, in seven doublings. -/
def cumprod (x : FVec F S64x128 .f32) : FVec F S64x128 .f32 :=
  scanStep 64#32 (scanStep 32#32 (scanStep 16#32 (scanStep 8#32 (scanStep 4#32 (scanStep 2#32 (scanStep 1#32 x))))))

/-- One lane to the right, 1 coming in. -/
def shift (x : FVec F S64x128 .f32) : FVec F S64x128 .f32 :=
  select (cmpi .slt lane (broadcast S64x128 1#32)) (cst 0x3F800000#32) (dynamicRotate 1 1#32 none x rotates_S64x128_d1)

/-- Whether an opacity is above the threshold. -/
def above (x : FVec F S64x128 .f32) : IVec S64x128 1 := cmpf .ogt x (cst 0x38D1B717#32)

/-- 1 where a point's opacity and weight from the density network are both above the threshold, else 0. -/
def pmask (a : FVec F S64x128 .f32) : FVec F S64x128 .f32 :=
  let a1 := select (above a) a (cst 0x00000000#32)
  let w := mulf a1 (shift (cumprod (subf (cst 0x3F800000#32) a1)))
  select (andi (above a) (above w)) (cst 0x3F800000#32) (cst 0x00000000#32)

/-- Row `n` of the gate's and experts' outputs, as rays by steps. -/
def row (n : Nat) (h : S40x64x128.Slices ![n, 0, 0] S1x64x128) (x : FVec F S40x8192 .f32) : FVec F S64x128 .f32 :=
  shapeCast S64x128 (extractStridedSlice S1x64x128 ![n, 0, 0] (shapeCast S40x64x128 x shapeCasts_S40x8192_S40x64x128) h) shapeCasts_S1x64x128_S64x128

/-- The largest of eight. -/
def max8 (a0 a1 a2 a3 a4 a5 a6 a7 : FVec F S64x128 .f32) : FVec F S64x128 .f32 :=
  maximumf (maximumf (maximumf (maximumf (maximumf (maximumf (maximumf a0 a1) a2) a3) a4) a5) a6) a7

/-- A logit, masked out where it is the largest `m`. -/
def masked (m a : FVec F S64x128 .f32) : FVec F S64x128 .f32 :=
  select (cmpf .oeq a m) (broadcast S64x128 (Named.named κ "mask" 0xF149F2CA#32 : F .f32)) a

/-- The first gate: the share of the largest logit `m1` beside the second largest `m2`, where the point counts. -/
def gate1 (m1 m2 p : FVec F S64x128 .f32) : FVec F S64x128 .f32 := mulf (logistic (subf m1 m2)) p

/-- The weight of an expert with logit `a`, masked logit `k`. -/
def weight (m1 m2 g1 g2 a k : FVec F S64x128 .f32) : FVec F S64x128 .f32 :=
  addf (select (cmpf .oeq a m1) g1 (cst 0x00000000#32)) (select (cmpf .oeq k m2) g2 (cst 0x00000000#32))

/-- The sum of eight weighted values. -/
def mix (w0 w1 w2 w3 w4 w5 w6 w7 v0 v1 v2 v3 v4 v5 v6 v7 : FVec F S64x128 .f32) : FVec F S64x128 .f32 :=
  addf (addf (addf (addf (addf (addf (addf (mulf w0 v0) (mulf w1 v1)) (mulf w2 v2)) (mulf w3 v3)) (mulf w4 v4)) (mulf w5 v5)) (mulf w6 v6)) (mulf w7 v7)

/-- One colour of the pixels: the weighted sum along the rays plus what is left of the background `b`. -/
def col (w left : FVec F S64x128 .f32) (rgb : FVec F S64x128 .f32) (b : FVec F S1x1 .f32) : FVec F S64x1 .f32 :=
  let s : FVec F S64 .f32 := multiReduction .add [1] S64 (mulf w rgb) 0x00000000#32 reduces_S64x128_S64 (.inl rfl) rfl
  addf (shapeCast S64x1 s shapeCasts_S64_S64x1)
    (mulf (extractStridedSlice S64x1 ![0, 127] left slices_S64x128_o0_127_S64x1)
      (broadcastTo S64x1 (shapeCast S1x1 b shapeCasts_S1x1_S1x1) broadcasts_S1x1_S64x1))

/-- The pixels of a block from the point mask and the gate's and experts' outputs. -/
def pixels (x : FVec F S40x8192 .f32) (p : FVec F S64x128 .f32) (b0 b1 b2 : FVec F S1x1 .f32) : FVec F S64x3 .f32 :=
  let l0 := row 0 slices_S40x64x128_o0_0_0_S1x64x128 x
  let l1 := row 1 slices_S40x64x128_o1_0_0_S1x64x128 x
  let l2 := row 2 slices_S40x64x128_o2_0_0_S1x64x128 x
  let l3 := row 3 slices_S40x64x128_o3_0_0_S1x64x128 x
  let l4 := row 4 slices_S40x64x128_o4_0_0_S1x64x128 x
  let l5 := row 5 slices_S40x64x128_o5_0_0_S1x64x128 x
  let l6 := row 6 slices_S40x64x128_o6_0_0_S1x64x128 x
  let l7 := row 7 slices_S40x64x128_o7_0_0_S1x64x128 x
  let m1 := max8 l0 l1 l2 l3 l4 l5 l6 l7
  let k0 := masked m1 l0
  let k1 := masked m1 l1
  let k2 := masked m1 l2
  let k3 := masked m1 l3
  let k4 := masked m1 l4
  let k5 := masked m1 l5
  let k6 := masked m1 l6
  let k7 := masked m1 l7
  let m2 := max8 k0 k1 k2 k3 k4 k5 k6 k7
  let g1 := gate1 m1 m2 p
  let g2 := subf p g1
  let w0 := weight m1 m2 g1 g2 l0 k0
  let w1 := weight m1 m2 g1 g2 l1 k1
  let w2 := weight m1 m2 g1 g2 l2 k2
  let w3 := weight m1 m2 g1 g2 l3 k3
  let w4 := weight m1 m2 g1 g2 l4 k4
  let w5 := weight m1 m2 g1 g2 l5 k5
  let w6 := weight m1 m2 g1 g2 l6 k6
  let w7 := weight m1 m2 g1 g2 l7 k7
  let c0 := mix w0 w1 w2 w3 w4 w5 w6 w7 (logistic (row 8 slices_S40x64x128_o8_0_0_S1x64x128 x)) (logistic (row 12 slices_S40x64x128_o12_0_0_S1x64x128 x)) (logistic (row 16 slices_S40x64x128_o16_0_0_S1x64x128 x)) (logistic (row 20 slices_S40x64x128_o20_0_0_S1x64x128 x)) (logistic (row 24 slices_S40x64x128_o24_0_0_S1x64x128 x)) (logistic (row 28 slices_S40x64x128_o28_0_0_S1x64x128 x)) (logistic (row 32 slices_S40x64x128_o32_0_0_S1x64x128 x)) (logistic (row 36 slices_S40x64x128_o36_0_0_S1x64x128 x))
  let c1 := mix w0 w1 w2 w3 w4 w5 w6 w7 (logistic (row 9 slices_S40x64x128_o9_0_0_S1x64x128 x)) (logistic (row 13 slices_S40x64x128_o13_0_0_S1x64x128 x)) (logistic (row 17 slices_S40x64x128_o17_0_0_S1x64x128 x)) (logistic (row 21 slices_S40x64x128_o21_0_0_S1x64x128 x)) (logistic (row 25 slices_S40x64x128_o25_0_0_S1x64x128 x)) (logistic (row 29 slices_S40x64x128_o29_0_0_S1x64x128 x)) (logistic (row 33 slices_S40x64x128_o33_0_0_S1x64x128 x)) (logistic (row 37 slices_S40x64x128_o37_0_0_S1x64x128 x))
  let c2 := mix w0 w1 w2 w3 w4 w5 w6 w7 (logistic (row 10 slices_S40x64x128_o10_0_0_S1x64x128 x)) (logistic (row 14 slices_S40x64x128_o14_0_0_S1x64x128 x)) (logistic (row 18 slices_S40x64x128_o18_0_0_S1x64x128 x)) (logistic (row 22 slices_S40x64x128_o22_0_0_S1x64x128 x)) (logistic (row 26 slices_S40x64x128_o26_0_0_S1x64x128 x)) (logistic (row 30 slices_S40x64x128_o30_0_0_S1x64x128 x)) (logistic (row 34 slices_S40x64x128_o34_0_0_S1x64x128 x)) (logistic (row 38 slices_S40x64x128_o38_0_0_S1x64x128 x))
  let al := mix w0 w1 w2 w3 w4 w5 w6 w7 (toAlpha (row 11 slices_S40x64x128_o11_0_0_S1x64x128 x)) (toAlpha (row 15 slices_S40x64x128_o15_0_0_S1x64x128 x)) (toAlpha (row 19 slices_S40x64x128_o19_0_0_S1x64x128 x)) (toAlpha (row 23 slices_S40x64x128_o23_0_0_S1x64x128 x)) (toAlpha (row 27 slices_S40x64x128_o27_0_0_S1x64x128 x)) (toAlpha (row 31 slices_S40x64x128_o31_0_0_S1x64x128 x)) (toAlpha (row 35 slices_S40x64x128_o35_0_0_S1x64x128 x)) (toAlpha (row 39 slices_S40x64x128_o39_0_0_S1x64x128 x))
  let t := cumprod (subf (cst 0x3F800000#32) al)
  let w := mulf al (shift t)
  concatenate S64x3 1 [⟨S64x1, col w t c0 b0⟩, ⟨S64x1, col w t c1 b1⟩, ⟨S64x1, col w t c2 b2⟩] concatenates_S64x1_S64x1_S64x1_S64x3_d1

/-- The pixels of a block of 64 rays. -/
def blk (rdv : FVec F S16x64 .f32) (rr : FVec F S64x16 .f32) (ss : Vec F S128x8192 .bf16) (w1d : FVec F S8x72 .bf16)
    (w2d : FVec F S72x8 .bf16) (w1r : FVec F S8x584 .bf16) (w2r : FVec F S584x40 .bf16) (b0 b1 b2 : FVec F S1x1 .f32) :
    FVec F S64x3 .f32 :=
  pixels (outr w1r w2r (feat rdv ss)) (pmask (alpha0 (inb rr) (dens w1d w2d (feat rdv ss)))) b0 b1 b2

end Cert.KernelIdeal.Stage

end
-- ==== Proof.Spec.lean ====
/-
  The pixel both programs compute, as a formula over the extended reals: sample points along a ray, the density that
  thins them, the gate over the eight experts, and the weighted sum along the ray.
-/
module

public import Idealize.ShloMosaic.Lib.Pointwise
public import Idealize.ShloMosaic.Lib.IdealHost

@[expose] public section

noncomputable section

namespace Moe

open Idealize.ShloMosaic

/-- The sixteen arguments: rays, background, and the weights and biases of the density, the gate and the experts. -/
structure Ins where
  o : Fin 1024 → Fin 3 → EReal
  d : Fin 1024 → Fin 3 → EReal
  v : Fin 1024 → Fin 3 → EReal
  bg : Fin 3 → EReal
  wd1 : Fin 3 → Fin 64 → EReal
  bd1 : Fin 64 → EReal
  wd2 : Fin 64 → EReal
  bd2 : EReal
  wg1 : Fin 6 → Fin 64 → EReal
  bg1 : Fin 64 → EReal
  wg2 : Fin 64 → Fin 8 → EReal
  bg2 : Fin 8 → EReal
  we1 : Fin 8 → Fin 6 → Fin 64 → EReal
  be1 : Fin 8 → Fin 64 → EReal
  we2 : Fin 8 → Fin 64 → Fin 4 → EReal
  be2 : Fin 8 → Fin 4 → EReal

/-- An f32 constant's value. -/
abbrev k (b : BitVec 32) : EReal := Ideal.ofBits .f32 b

/-- The length of a ray's direction plus a small number. -/
def len (I : Ins) (r : Fin 1024) : EReal := Ideal.sqrt (∑ x : Fin 3, I.d r x * I.d r x) + k 0x322BCC77#32

/-- The distance of step `l`. -/
def tt (l : Fin 128) : EReal :=
  k 0x3E4CCCCD#32 + k 0x3BA3D70A#32 * ((FloatOps.sitofp .f32 (BitVec.ofNat 32 l.val) : Ideal .f32) + k 0x3F000000#32)

/-- Coordinate `c` of the sample point at step `l` of ray `r`. -/
def pt (I : Ins) (r : Fin 1024) (l : Fin 128) (c : Fin 3) : EReal := I.o r c + Ideal.div (I.d r c) (len I r) * tt l

/-- What the gate and the experts see of a sample point: its coordinates, then the view direction. -/
def ft (I : Ins) (r : Fin 1024) (l : Fin 128) (j : Fin 6) : EReal :=
  if h : j.val < 3 then pt I r l ⟨j.val, h⟩ else I.v r ⟨j.val - 3, by omega⟩

/-- The density before its activation. -/
def dns (I : Ins) (r : Fin 1024) (l : Fin 128) : EReal :=
  ∑ n : Fin 64, max (∑ j : Fin 3, pt I r l j * I.wd1 j n + I.bd1 n) 0 * I.wd2 n + I.bd2

/-- The gate's logit of expert `e`. -/
def lgt (I : Ins) (r : Fin 1024) (l : Fin 128) (e : Fin 8) : EReal :=
  ∑ n : Fin 64, max (∑ j : Fin 6, ft I r l j * I.wg1 j n + I.bg1 n) 0 * I.wg2 n e + I.bg2 e

/-- Output `q` of expert `e` before its activation. -/
def raw (I : Ins) (r : Fin 1024) (l : Fin 128) (e : Fin 8) (q : Fin 4) : EReal :=
  ∑ n : Fin 64, max (∑ j : Fin 6, ft I r l j * I.we1 e j n + I.be1 e n) 0 * I.we2 e n q + I.be2 e q

/-- The softplus, cut off at 20. -/
def sp (y : EReal) : EReal := if k 0x41A00000#32 < y then y else Ideal.log1p (Ideal.exp (min y (k 0x41A00000#32)))

/-- Opacity from a raw density. -/
def toA (x : EReal) : EReal := 1 - Ideal.exp ((0 - sp (x + k 0xC0800000#32)) * k 0x3F000000#32)

/-- The sample point lies in the box. -/
def inside (I : Ins) (r : Fin 1024) (l : Fin 128) : Prop := ∀ c, k 0xBF800000#32 ≤ pt I r l c ∧ pt I r l c ≤ 1

open Classical in
/-- The opacity from the density network, 0 outside the box. -/
def al0 (I : Ins) (r : Fin 1024) (l : Fin 128) : EReal := if inside I r l then toA (dns I r l) else 0

/-- What is left of the light after the first `l` of the opacities `a`. -/
def trans (a : Fin 128 → EReal) (l : ℕ) : EReal := ∏ n : Fin 128, if n.val < l then 1 - a n else 1

/-- An opacity, 0 where it is not above the threshold. -/
def cut (x : EReal) : EReal := if k 0x38D1B717#32 < x then x else 0

/-- 1 where the point counts. -/
def pm (I : Ins) (r : Fin 1024) (l : Fin 128) : EReal :=
  if k 0x38D1B717#32 < al0 I r l ∧ k 0x38D1B717#32 < cut (al0 I r l) * trans (fun n => cut (al0 I r n)) l.val then 1 else 0

/-- The largest of eight. -/
def top (L : Fin 8 → EReal) : EReal := max (max (max (max (max (max (max (L 0) (L 1)) (L 2)) (L 3)) (L 4)) (L 5)) (L 6)) (L 7)

/-- The logits with the largest struck out. -/
def rest (L : Fin 8 → EReal) (e : Fin 8) : EReal := if L e = top L then ⊥ else L e

/-- The weight of expert `e` among logits `L` at a point that counts `p`: the softmax of the two largest. -/
def wt (L : Fin 8 → EReal) (p : EReal) (e : Fin 8) : EReal :=
  (if L e = top L then Ideal.logistic (top L - top (rest L)) * p else 0)
    + (if rest L e = top (rest L) then p - Ideal.logistic (top L - top (rest L)) * p else 0)

/-- The weight of expert `e` at a sample point. -/
def g (I : Ins) (r : Fin 1024) (l : Fin 128) (e : Fin 8) : EReal := wt (lgt I r l) (pm I r l) e

/-- The opacity of a sample point. -/
def al (I : Ins) (r : Fin 1024) (l : Fin 128) : EReal := ∑ e : Fin 8, g I r l e * toA (raw I r l e 3)

/-- A colour of a sample point. -/
def rgb (I : Ins) (r : Fin 1024) (l : Fin 128) (c : Fin 3) : EReal :=
  ∑ e : Fin 8, g I r l e * Ideal.logistic (raw I r l e ⟨c.val, by omega⟩)

/-- The pixel. -/
def pixel (I : Ins) (r : Fin 1024) (c : Fin 3) : EReal :=
  ∑ l : Fin 128, al I r l * trans (al I r) l.val * rgb I r l c + trans (al I r) 128 * I.bg c

end Moe

end
-- ==== Proof.Math.Consts.lean ====
/-
  The values of the two programs' constants that the proof needs, and two facts on division that rest on them.
-/
module

public import proofs.«01_k».proof.Proof.Spec

@[expose] public section

noncomputable section

namespace Moe

open Idealize.ShloMosaic

/-- The small number added to a direction's length is positive. -/
theorem eps_val : ∃ e : ℝ, 0 < e ∧ k 0x322BCC77#32 = (e : EReal) := by
  refine ⟨(11258999 : ℝ) * (2 ^ 50)⁻¹, by positivity, ?_⟩
  simp [k, Ideal.ofBits, Ideal.ieee, -EReal.coe_mul]

/-- The threshold is positive. -/
theorem thr_pos : 0 < k 0x38D1B717#32 := by
  have h : k 0x38D1B717#32 = (((13743895 : ℝ) * (2 ^ 37)⁻¹ : ℝ) : EReal) := by
    simp [k, Ideal.ofBits, Ideal.ieee, -EReal.coe_mul]
  rw [h]; exact_mod_cast (by positivity : (0 : ℝ) < (13743895 : ℝ) * (2 ^ 37)⁻¹)

/-- The softplus is cut off at 20. -/
theorem twenty : k 0x41A00000#32 = ((20 : ℝ) : EReal) := by
  simp [k, Ideal.ofBits, Ideal.ieee, -EReal.coe_mul]; norm_num

/-- The shift of a raw density is a real number. -/
theorem shift_val : ∃ e : ℝ, k 0xC0800000#32 = (e : EReal) := by
  refine ⟨-4, ?_⟩
  simp [k, Ideal.ofBits, Ideal.ieee, -EReal.coe_mul]; norm_num

/-- The start of the largest-element fold is the least value. -/
theorem start_val : k 0xFF800000#32 = ⊥ := by
  simp [k, Ideal.ofBits, Ideal.ieee]

/-- A length plus the small number is not zero. -/
theorem sqrt_add_ne (s : EReal) : Ideal.sqrt s + k 0x322BCC77#32 ≠ 0 := by
  obtain ⟨e, he, hv⟩ := eps_val
  rw [hv]
  induction s with
  | bot => simp
  | top => simp
  | coe x =>
    rw [Ideal.sqrt_coe]
    split
    · simp
    · have := Real.sqrt_nonneg x
      exact_mod_cast (by positivity : (0:ℝ) < Real.sqrt x + e).ne'

/-- Dividing is multiplying with one over the divisor. -/
theorem mul_div_one (x : EReal) {y : EReal} (h : y ≠ 0) : x * Ideal.div 1 y = Ideal.div x y := by
  simp [Ideal.div, h]

/-- Both bits are set. -/
theorem and_one (a b : BitVec 1) : a &&& b = 1#1 ↔ a = 1#1 ∧ b = 1#1 := by revert a b; decide

/-- A condition's bit is set. -/
theorem ofBool_one (p : Prop) [Decidable p] : BitVec.ofBool (decide p) = 1#1 ↔ p := by by_cases h : p <;> simp [h]

/-- The near distance, the step and the half step are real numbers. -/
theorem tt_consts : (∃ e : ℝ, k 0x3E4CCCCD#32 = (e : EReal)) ∧ (∃ e : ℝ, k 0x3BA3D70A#32 = (e : EReal)) ∧ ∃ e : ℝ, k 0x3F000000#32 = (e : EReal) := by
  refine ⟨⟨(13421773 : ℝ) * (2 ^ 26)⁻¹, ?_⟩, ⟨(10737418 : ℝ) * (2 ^ 31)⁻¹, ?_⟩, ⟨1 / 2, ?_⟩⟩
  · simp [k, Ideal.ofBits, Ideal.ieee, -EReal.coe_mul]
  · simp [k, Ideal.ofBits, Ideal.ieee, -EReal.coe_mul]
  · simp [k, Ideal.ofBits, Ideal.ieee, -EReal.coe_mul]; norm_num

end Moe

end
-- ==== Proof.Kernel.Feat.lean ====
/-
  The sample points' features: one product of the rays' columns with the constant table gives coordinates, view
  directions and a row of ones.
-/
module

public import proofs.«01_k».proof.Proof.Kernel.Stages
public import proofs.«01_k».proof.Proof.Math.Consts

@[expose] public section

set_option maxRecDepth 16384

noncomputable section

namespace Cert.KernelIdeal.Stage

open Idealize.ShloMosaic Idealize.ShloMosaic.TcCoe Idealize.SL.Sem Cert.KernelIdeal Cert.KernelIdeal.Gen

/-- The constant table: which ray a column belongs to, then the same times the step's distance. -/
structure IsTable (ss : Vec Ideal S128x8192 .bf16) : Prop where
  own : ∀ (x r : Fin 64) (l : Fin 128), (ss (ix2 ⟨x.val, by omega⟩ ⟨r.val * 128 + l.val, by omega⟩) : EReal) = if x = r then 1 else 0
  dist : ∀ (x r : Fin 64) (l : Fin 128), (ss (ix2 ⟨64 + x.val, by omega⟩ ⟨r.val * 128 + l.val, by omega⟩) : EReal) = if x = r then Moe.tt l else 0

/-- A product with the table picks out one ray. -/
theorem feat_sum (v7 : FVec Ideal S16x64 .f32) (ss : Vec Ideal S128x8192 .bf16) (hs : IsTable ss) (j : Fin 8) (r : Fin 64) (l : Fin 128) :
    (feat v7 ss (ix2 j ⟨r.val * 128 + l.val, by omega⟩) : EReal)
      = (if h : j.val < 3 then (v7 (ix2 ⟨j.val, by omega⟩ r) : EReal) else if h : j.val < 6 then (v7 (ix2 ⟨3 + j.val, by omega⟩ r) : EReal) else if j.val < 7 then 0 else 1)
        + (if h : j.val < 3 then Ideal.div (v7 (ix2 ⟨3 + j.val, by omega⟩ r)) (Ideal.sqrt (∑ x : Fin 3, (v7 (ix2 ⟨3 + x.val, by omega⟩ r) : EReal) * v7 (ix2 ⟨3 + x.val, by omega⟩ r)) + Moe.k 0x322BCC77#32) else 0) * Moe.tt l := by
  pointwise [feat]
  simp only [hs.own, hs.dist, mul_ite, mul_one, mul_zero, Finset.sum_ite_eq', Finset.sum_ite_eq, Finset.mem_univ, if_true]
  have hj := j.isLt
  by_cases h3 : j.val < 3
  · simp only [dif_pos h3]
    rw [Moe.mul_div_one _ (Moe.sqrt_add_ne _)]
  · simp only [dif_neg h3]
    by_cases h6 : j.val < 6
    · rw [dif_pos h6, dif_pos (show j.val - 3 < 3 by omega)]
      have e : (⟨6 + (j.val - 3), by omega⟩ : Fin 16) = ⟨3 + j.val, by omega⟩ := Fin.ext (by simp only; omega)
      rw [e]
      simp
    · rw [dif_neg h6, dif_neg (show ¬ j.val - 3 < 3 by omega)]
      by_cases h7 : j.val < 7
      · rw [if_pos h7, dif_pos (by omega)]; simp
      · rw [if_neg h7, dif_neg (by omega)]; simp

/-- A block's columns hold its rays. -/
structure IsRays (I : Moe.Ins) (R : Fin 64 → Fin 1024) (v7 : FVec Ideal S16x64 .f32) : Prop where
  o : ∀ (c : Fin 3) r, (v7 (ix2 ⟨c.val, by omega⟩ r) : EReal) = I.o (R r) c
  d : ∀ (c : Fin 3) r, (v7 (ix2 ⟨3 + c.val, by omega⟩ r) : EReal) = I.d (R r) c
  v : ∀ (c : Fin 3) r, (v7 (ix2 ⟨6 + c.val, by omega⟩ r) : EReal) = I.v (R r) c

variable {I : Moe.Ins} {R : Fin 64 → Fin 1024} {v7 : FVec Ideal S16x64 .f32} {ss : Vec Ideal S128x8192 .bf16}

/-- Rows 0 to 2: the sample points' coordinates. -/
theorem feat_pt (hv : IsRays I R v7) (hs : IsTable ss) (c : Fin 3) (r : Fin 64) (l : Fin 128) :
    (feat v7 ss (ix2 ⟨c.val, by omega⟩ ⟨r.val * 128 + l.val, by omega⟩) : EReal) = Moe.pt I (R r) l c := by
  rw [feat_sum v7 ss hs, dif_pos c.isLt, dif_pos c.isLt]
  simp only [hv.d]
  rw [hv.o c r]
  rfl

/-- Rows 0 to 5: what the gate and the experts see. -/
theorem feat_ft (hv : IsRays I R v7) (hs : IsTable ss) (j : Fin 6) (r : Fin 64) (l : Fin 128) :
    (feat v7 ss (ix2 ⟨j.val, by omega⟩ ⟨r.val * 128 + l.val, by omega⟩) : EReal) = Moe.ft I (R r) l j := by
  unfold Moe.ft
  split
  · rename_i h
    exact feat_pt hv hs ⟨j.val, h⟩ r l
  · rename_i h
    have hj := j.isLt
    rw [feat_sum v7 ss hs, dif_neg h, dif_pos hj, dif_neg h]
    have e : (⟨3 + j.val, by omega⟩ : Fin 16) = ⟨6 + (j.val - 3), by omega⟩ := Fin.ext (by simp only; omega)
    rw [e, zero_mul, add_zero]
    exact hv.v ⟨j.val - 3, by omega⟩ r

/-- Row 7: ones. -/
theorem feat_one (hs : IsTable ss) (r : Fin 64) (l : Fin 128) :
    (feat v7 ss (ix2 7 ⟨r.val * 128 + l.val, by omega⟩) : EReal) = 1 := by
  rw [feat_sum v7 ss hs]
  simp

end Cert.KernelIdeal.Stage

end
-- ==== Proof.Kernel.Misc.lean ====
/- A scatter that writes one row of a small matrix, read at an element: the row it writes, and the others. -/
module

public import proofs.«01_k».proof.Proof.Gen.KernelIdeal.Value
public import Idealize.ShloMosaic.Lib.Routing.OpsSet
public import Idealize.ShloMosaic.Lib.Pointwise

@[expose] public section
set_option maxRecDepth 16384
noncomputable section
namespace Cert.KernelIdeal.Misc
open Idealize.ShloMosaic Idealize.ShloMosaic.TcCoe Idealize.SL.Sem Cert.KernelIdeal Cert.KernelIdeal.Gen
open Idealize.ShloMosaic.Routing

/-- The two spellings of an index of a matrix. -/
theorem ix2_eq {R C : ℕ} (a : Fin R) (b : Fin C) : (ix2 a b : (shape2 R C).Idx) = ValueIdx.ix2 a b := by
  funext x; match x with
  | ⟨0, _⟩ => rfl
  | ⟨1, _⟩ => rfl

/-- Where an update of a one-row scatter lands: row and column 0 are the two index words. -/
theorem row_lands {K : ℕ} (d : ScatterDims (shape2 8 128) (shape1 2) (shape1 K)) (h1 : d.updateWindowDims = [0])
    (h2 : d.insertedWindowDims = [0]) (h3 : d.scatterDimsToOperandDims = [0, 1]) (h4 : d.indexVectorDim = 0)
    (idx : IVec (shape1 2) 32) (r : ℕ) (hr : (idx (ix1 0)).toInt = r) (h0 : (idx (ix1 1)).toInt = 0)
    (k : (shape1 K).Idx) (a : Fin 8) (b : Fin 128) :
    d.resultIdx? k idx = some (ix2 a b) ↔ r = a.val ∧ (k 0).val = b.val := by
  obtain ⟨uw, iw, sd, iv, wf⟩ := d
  simp only at h1 h2 h3 h4
  subst h1 h2 h3 h4
  rw [ix2_eq, resultIdx?_ix2]
  have e0 : (⟨[0], [0], [0, 1], 0, wf⟩ : ScatterDims (shape2 8 128) (shape1 2) (shape1 K)).start k idx 0 = r := by
    unfold ScatterDims.start
    rw [dif_pos (by simp)]
    rw [← hr]
    refine congrArg (fun i => (idx i).toInt) ?_
    funext x; match x with | ⟨0, _⟩ => rfl
  have e1 : (⟨[0], [0], [0, 1], 0, wf⟩ : ScatterDims (shape2 8 128) (shape1 2) (shape1 K)).start k idx 1 = 0 := by
    unfold ScatterDims.start
    rw [dif_pos (by simp)]
    rw [← h0]
    refine congrArg (fun i => (idx i).toInt) ?_
    funext x; match x with | ⟨0, _⟩ => rfl
  have e2 : (⟨[0], [0], [0, 1], 0, wf⟩ : ScatterDims (shape2 8 128) (shape1 2) (shape1 K)).window k 0 = 0 := rfl
  have e3 : (⟨[0], [0], [0, 1], 0, wf⟩ : ScatterDims (shape2 8 128) (shape1 2) (shape1 K)).window k 1 = (k 0).val := rfl
  rw [e0, e1, e2, e3]
  omega

/-- A one-row scatter read in its row and in any other. -/
theorem row_at {α : Type} {K : ℕ} (d : ScatterDims (shape2 8 128) (shape1 2) (shape1 K)) (h1 : d.updateWindowDims = [0])
    (h2 : d.insertedWindowDims = [0]) (h3 : d.scatterDimsToOperandDims = [0, 1]) (h4 : d.indexVectorDim = 0)
    (idx : IVec (shape1 2) 32) (r : ℕ) (hr : (idx (ix1 0)).toInt = r) (h0 : (idx (ix1 1)).toInt = 0)
    (x : (shape2 8 128).Idx → α) (u : (shape1 K).Idx → α) (a : Fin 8) (b : Fin 128) (h : r ≠ a.val ∨ b.val < K) :
    Host.scatter d (fun _ b => b) x idx u (ix2 a b) = if hh : r = a.val ∧ b.val < K then u (ix1 ⟨b.val, hh.2⟩) else x (ix2 a b) := by
  have L := row_lands d h1 h2 h3 h4 idx r hr h0
  split
  · next hh =>
    refine scatter_set_hit d x idx u _ _ (fun k hk => ?_) (ix1 ⟨b.val, hh.2⟩) ((L _ _ _).2 ⟨hh.1, rfl⟩)
    have := ((L _ _ _).1 hk).2
    refine congrArg u ?_
    funext q; match q with | ⟨0, _⟩ => exact Fin.ext this
  · next hh =>
    refine scatter_set_miss d x idx u _ fun k hk => ?_
    have e := (L _ _ _).1 hk
    omega

/-- A scatter of one scalar, read at its place and at any other. -/
theorem cell_at {α : Type} (d : ScatterDims (shape2 8 128) (shape1 2) ⟨0, ![]⟩) (h1 : d.updateWindowDims = [])
    (h2 : d.insertedWindowDims = [0, 1]) (h3 : d.scatterDimsToOperandDims = [0, 1]) (h4 : d.indexVectorDim = 0)
    (idx : IVec (shape1 2) 32) (r : ℕ) (hr : (idx (ix1 0)).toInt = r) (h0 : (idx (ix1 1)).toInt = 0)
    (x : (shape2 8 128).Idx → α) (u : Shape.Idx ⟨0, ![]⟩ → α) (a : Fin 8) (b : Fin 128) :
    Host.scatter d (fun _ b => b) x idx u (ix2 a b) = if r = a.val ∧ b.val = 0 then u ix0 else x (ix2 a b) := by
  obtain ⟨uw, iw, sd, iv, wf⟩ := d
  simp only at h1 h2 h3 h4
  subst h1 h2 h3 h4
  have L : ∀ k, (⟨[], [0, 1], [0, 1], 0, wf⟩ : ScatterDims (shape2 8 128) (shape1 2) ⟨0, ![]⟩).resultIdx? k idx = some (ix2 a b) ↔ r = a.val ∧ b.val = 0 := by
    intro k
    rw [ix2_eq, resultIdx?_ix2]
    have e0 : (⟨[], [0, 1], [0, 1], 0, wf⟩ : ScatterDims (shape2 8 128) (shape1 2) ⟨0, ![]⟩).start k idx 0 = r := by
      unfold ScatterDims.start
      rw [dif_pos (by simp)]
      rw [← hr]
      refine congrArg (fun i => (idx i).toInt) ?_
      funext x; match x with | ⟨0, _⟩ => rfl
    have e1 : (⟨[], [0, 1], [0, 1], 0, wf⟩ : ScatterDims (shape2 8 128) (shape1 2) ⟨0, ![]⟩).start k idx 1 = 0 := by
      unfold ScatterDims.start
      rw [dif_pos (by simp)]
      rw [← h0]
      refine congrArg (fun i => (idx i).toInt) ?_
      funext x; match x with | ⟨0, _⟩ => rfl
    have e2 : (⟨[], [0, 1], [0, 1], 0, wf⟩ : ScatterDims (shape2 8 128) (shape1 2) ⟨0, ![]⟩).window k 0 = 0 := rfl
    have e3 : (⟨[], [0, 1], [0, 1], 0, wf⟩ : ScatterDims (shape2 8 128) (shape1 2) ⟨0, ![]⟩).window k 1 = 0 := rfl
    rw [e0, e1, e2, e3]
    omega
  split
  · next hh =>
    refine scatter_set_hit _ x idx u _ _ (fun k _ => congrArg u ?_) ix0 ((L _).2 hh)
    funext q; exact q.elim0
  · next hh => exact scatter_set_miss _ x idx u _ fun k hk => hh ((L _).1 hk)

/-- The two index words of a scatter that starts at row `a`, column `b`. -/
theorem words_at (a b : BitVec 32) :
    (concatenate S2 0 [⟨S1, broadcastInDim S1 ![] bcast_S_S1 (constantI S_ 32 a)⟩,
      ⟨S1, broadcastInDim S1 ![] bcast_S_S1 (constantI S_ 32 b)⟩] concatenates_S1_S1_S2_d0) (ix1 0) = a ∧
    (concatenate S2 0 [⟨S1, broadcastInDim S1 ![] bcast_S_S1 (constantI S_ 32 a)⟩,
      ⟨S1, broadcastInDim S1 ![] bcast_S_S1 (constantI S_ 32 b)⟩] concatenates_S1_S1_S2_d0) (ix1 1) = b := by
  constructor <;> pointwise

end Cert.KernelIdeal.Misc
end
-- ==== Proof.Math.Prefix.lean ====
/-
  Products along a ray: doubling steps build the running product, halvings the whole product.
-/
module

public import proofs.«01_k».proof.Proof.Spec

@[expose] public section

noncomputable section

namespace Moe

/-- The product of the `m` values that end at position `l`. -/
def pref (m : ℕ) (f : Fin 128 → EReal) (l : Fin 128) : EReal := ∏ n : Fin 128, if n.val ≤ l.val ∧ l.val < n.val + m then f n else 1

theorem pref_one (f : Fin 128 → EReal) (l : Fin 128) : pref 1 f l = f l := by
  unfold pref
  rw [Finset.prod_eq_single l]
  · simp
  · intro b _ hb
    have : b.val ≠ l.val := fun h => hb (Fin.ext h)
    rw [if_neg (by omega)]
  · simp

/-- A doubling step. -/
theorem pref_double (m : ℕ) (f : Fin 128 → EReal) (l : Fin 128) (hm : m ≤ 64) :
    pref m f l * (if l.val < m then 1 else pref m f ⟨(l.val + 128 - m) % 128, Nat.mod_lt _ (by norm_num)⟩) = pref (m + m) f l := by
  have hl := l.isLt
  unfold pref
  split
  · rename_i h
    rw [mul_one]
    exact Finset.prod_congr rfl fun n _ => if_congr (by omega) rfl rfl
  · rename_i h
    rw [← Finset.prod_mul_distrib]
    refine Finset.prod_congr rfl fun n _ => ?_
    have hs : (l.val + 128 - m) % 128 = l.val - m := by
      rw [show l.val + 128 - m = l.val - m + 128 by omega, Nat.add_mod_right]
      exact Nat.mod_eq_of_lt (by omega)
    simp only [hs]
    by_cases h1 : n.val ≤ l.val ∧ l.val < n.val + m
    · rw [if_pos h1, if_neg (by omega), if_pos (by omega), mul_one]
    · by_cases h2 : n.val ≤ l.val - m ∧ l.val - m < n.val + m
      · rw [if_neg h1, if_pos h2, if_pos (by omega), one_mul]
      · rw [if_neg h1, if_neg h2, if_neg (by omega), one_mul]

/-- What is left of the light, from the running product shifted by one. -/
theorem trans_shift (a : Fin 128 → EReal) (l : Fin 128) :
    (if l.val < 1 then 1 else pref 128 (fun n => 1 - a n) ⟨(l.val + 128 - 1) % 128, Nat.mod_lt _ (by norm_num)⟩) = trans a l.val := by
  unfold trans pref
  split
  · exact (Finset.prod_eq_one fun n _ => if_neg (by omega)).symm
  · refine Finset.prod_congr rfl fun n _ => if_congr ?_ rfl rfl
    have := l.isLt; have := n.isLt
    show n.val ≤ (l.val + 128 - 1) % 128 ∧ (l.val + 128 - 1) % 128 < n.val + 128 ↔ _
    omega

/-- What is left of the light at the end, from the running product. -/
theorem trans_last (a : Fin 128 → EReal) : pref 128 (fun n => 1 - a n) 127 = trans a 128 := by
  unfold trans pref
  refine Finset.prod_congr rfl fun n _ => if_congr ?_ rfl rfl
  have := n.isLt
  show n.val ≤ 127 ∧ 127 < n.val + 128 ↔ _
  omega

end Moe

end
-- ==== Proof.Kernel.Parts.lean ====
/-
  The stages of a block read at one ray and one step, as formulas over the extended reals.
-/
module

public import proofs.«01_k».proof.Proof.Kernel.Stages
public import proofs.«01_k».proof.Proof.Math.Consts
public import proofs.«01_k».proof.Proof.Math.Prefix

@[expose] public section

set_option maxRecDepth 16384

noncomputable section

namespace Cert.KernelIdeal.Stage

open Idealize.ShloMosaic Idealize.ShloMosaic.TcCoe Idealize.SL.Sem Cert.KernelIdeal Cert.KernelIdeal.Gen

/-- A comparison of two small numbers as words. -/
theorem sel_slt (a b : ℕ) (ha : a < 2 ^ 31) (hb : b < 2 ^ 31) (x y : EReal) :
    Scalar.select (IntOp.cmpi .slt (BitVec.ofNat 32 a) (BitVec.ofNat 32 b)) x y = if a < b then x else y := by
  have h : (BitVec.ofNat 32 a).slt (BitVec.ofNat 32 b) = decide (a < b) := by
    rw [BitVec.slt, BitVec.toInt_eq_toNat_of_lt (by simp; omega), BitVec.toInt_eq_toNat_of_lt (by simp; omega)]
    simp [Nat.mod_eq_of_lt (show a < 4294967296 by omega), Nat.mod_eq_of_lt (show b < 4294967296 by omega)]
  show (if BitVec.ofBool ((BitVec.ofNat 32 a).slt (BitVec.ofNat 32 b)) = 1#1 then x else y) = _
  rw [h]
  by_cases hab : a < b <;> simp [hab]

/-- A doubling step of the running product. -/
theorem scan_at (x : FVec Ideal S64x128 .f32) (f : Fin 128 → EReal) (r : Fin 64) (m : ℕ) (hm : m ≤ 64)
    (hx : ∀ l, (x (ix2 r l) : EReal) = Moe.pref m f l) (l : Fin 128) :
    (scanStep (BitVec.ofNat 32 m) x (ix2 r l) : EReal) = Moe.pref (m + m) f l := by
  pointwise [scanStep, lane, cst]
  have hl := l.isLt
  rw [sel_slt _ _ (by omega) (by omega), hx, hx, ← Moe.pref_double m f l hm]
  have hm' : (BitVec.ofNat 32 m).toNat % 128 = m := by
    rw [BitVec.toNat_ofNat, Nat.mod_eq_of_lt (by omega), Nat.mod_eq_of_lt (by omega)]
  simp only [hm']

/-- The running product. -/
theorem cumprod_at (x : FVec Ideal S64x128 .f32) (f : Fin 128 → EReal) (r : Fin 64) (hx : ∀ l, (x (ix2 r l) : EReal) = f l) (l : Fin 128) :
    (cumprod x (ix2 r l) : EReal) = Moe.pref 128 f l :=
  scan_at _ f r 64 (by omega) (scan_at _ f r 32 (by omega) (scan_at _ f r 16 (by omega) (scan_at _ f r 8 (by omega)
    (scan_at _ f r 4 (by omega) (scan_at _ f r 2 (by omega) (scan_at _ f r 1 (by omega) (fun l => (hx l).trans (Moe.pref_one f l).symm))))))) l

/-- One lane to the right. -/
theorem shift_at (x : FVec Ideal S64x128 .f32) (r : Fin 64) (l : Fin 128) :
    (shift x (ix2 r l) : EReal) = if l.val < 1 then 1 else (x (ix2 r ⟨(l.val + 128 - 1) % 128, Nat.mod_lt _ (by norm_num)⟩) : EReal) := by
  pointwise [shift, lane, cst]
  have hl := l.isLt
  exact sel_slt _ 1 (by omega) (by omega) _ _

/-- What is left of the light, before each step. -/
theorem left_at (x : FVec Ideal S64x128 .f32) (a : Fin 128 → EReal) (r : Fin 64) (hx : ∀ l, (x (ix2 r l) : EReal) = 1 - a l) (l : Fin 128) :
    (shift (cumprod x) (ix2 r l) : EReal) = Moe.trans a l.val := by
  rw [shift_at, cumprod_at x _ r hx, Moe.trans_shift]

/-- What is left of the light at the end. -/
theorem last_at (x : FVec Ideal S64x128 .f32) (a : Fin 128 → EReal) (r : Fin 64) (hx : ∀ l, (x (ix2 r l) : EReal) = 1 - a l) :
    (cumprod x (ix2 r 127) : EReal) = Moe.trans a 128 := by
  rw [cumprod_at x _ r hx, Moe.trans_last]

theorem toAlpha_at (x : FVec Ideal S64x128 .f32) (r : Fin 64) (l : Fin 128) : (toAlpha x (ix2 r l) : EReal) = Moe.toA (x (ix2 r l)) := by
  pointwise [toAlpha, cst]
  rfl

/-- A row of the outputs. -/
theorem row_at (x : FVec Ideal S40x8192 .f32) (n : ℕ) (hn : n < 40) (h) (r : Fin 64) (l : Fin 128) :
    (row n h x (ix2 r l) : EReal) = x (ix2 ⟨n, hn⟩ ⟨r.val * 128 + l.val, by omega⟩) := by
  pointwise [row]

theorem max8_at (a0 a1 a2 a3 a4 a5 a6 a7 : FVec Ideal S64x128 .f32) (r : Fin 64) (l : Fin 128) :
    (max8 a0 a1 a2 a3 a4 a5 a6 a7 (ix2 r l) : EReal) = max (max (max (max (max (max (max (a0 (ix2 r l)) (a1 (ix2 r l))) (a2 (ix2 r l))) (a3 (ix2 r l))) (a4 (ix2 r l))) (a5 (ix2 r l))) (a6 (ix2 r l))) (a7 (ix2 r l)) := by
  pointwise [max8]

theorem mask_val : (Named.named κ "mask" 0xF149F2CA#32 : Ideal .f32) = (⊥ : EReal) :=
  IdealRules.named_const.ideal_named_scalar _ _ _ _ rfl

theorem masked_at (m a : FVec Ideal S64x128 .f32) (r : Fin 64) (l : Fin 128) :
    (masked m a (ix2 r l) : EReal) = if (a (ix2 r l) : EReal) = m (ix2 r l) then ⊥ else (a (ix2 r l) : EReal) := by
  pointwise [masked]
  rw [mask_val]

/-- Whether an opacity counts, and the weight it leaves. -/
theorem pmask_at (x : FVec Ideal S64x128 .f32) (a : Fin 128 → EReal) (r : Fin 64) (hx : ∀ l, (x (ix2 r l) : EReal) = a l) (l : Fin 128) :
    (pmask x (ix2 r l) : EReal)
      = if Moe.k 0x38D1B717#32 < a l ∧ Moe.k 0x38D1B717#32 < Moe.cut (a l) * Moe.trans (fun n => Moe.cut (a n)) l.val then 1 else 0 := by
  have hz := left_at (subf (cst (F := Ideal) 0x3F800000#32) (select (above (F := Ideal) x) x (cst (F := Ideal) 0x00000000#32))) (fun n => Moe.cut (a n)) r (fun l => by
    pointwise [above, cst]; rw [hx]; rfl) l
  unfold pmask
  generalize shift (F := Ideal) _ = z at hz ⊢
  pointwise [above, cst]
  rw [hx, hz]
  generalize Moe.trans (fun n => Moe.cut (a n)) l.val = t
  simp only [Scalar.select, IntOp.andi, Moe.cut, Moe.k]
  by_cases h1 : Ideal.ofBits .f32 0x38D1B717#32 < a l
  · by_cases h2 : Ideal.ofBits .f32 0x38D1B717#32 < a l * t
    · simp [h1, h2]
    · simp [h1, h2]
  · simp [h1]

end Cert.KernelIdeal.Stage

end
-- ==== Proof.Kernel.Pixels.lean ====
/-
  The pixels of a block of 64 rays, read at one ray: the weighted sum along the ray of what the formulas give for the
  gate's and the experts' outputs.
-/
module

public import proofs.«01_k».proof.Proof.Kernel.Parts

@[expose] public section

set_option maxRecDepth 16384

noncomputable section

namespace Cert.KernelIdeal.Stage

open Idealize.ShloMosaic Idealize.ShloMosaic.TcCoe Idealize.SL.Sem Cert.KernelIdeal Cert.KernelIdeal.Gen

section
variable {F : FTy → Type} [FloatOps F] [Named F]

theorem slices_row (n : ℕ) (hn : n < 40) : S40x64x128.Slices ![n, 0, 0] S1x64x128 :=
  ⟨rfl, fun a => match a with
    | ⟨0, _⟩ => show n + 1 ≤ 40 by omega
    | ⟨1, _⟩ => show 0 + 64 ≤ 64 by omega
    | ⟨2, _⟩ => show 0 + 128 ≤ 128 by omega
    | ⟨k + 3, hk⟩ => absurd hk (show ¬ (k + 3 < 3) by omega)⟩

/-- Row `n` of the outputs. -/
def rowf (x : FVec F S40x8192 .f32) (n : ℕ) (hn : n < 40) : FVec F S64x128 .f32 := row n (slices_row n hn) x

/-- The largest logit. -/
def top1 (x : FVec F S40x8192 .f32) : FVec F S64x128 .f32 :=
  max8 (rowf x 0 (by decide)) (rowf x 1 (by decide)) (rowf x 2 (by decide)) (rowf x 3 (by decide)) (rowf x 4 (by decide)) (rowf x 5 (by decide)) (rowf x 6 (by decide)) (rowf x 7 (by decide))

/-- The second largest logit. -/
def top2 (x : FVec F S40x8192 .f32) : FVec F S64x128 .f32 :=
  max8 (masked (top1 x) (rowf x 0 (by decide))) (masked (top1 x) (rowf x 1 (by decide))) (masked (top1 x) (rowf x 2 (by decide))) (masked (top1 x) (rowf x 3 (by decide)))
    (masked (top1 x) (rowf x 4 (by decide))) (masked (top1 x) (rowf x 5 (by decide))) (masked (top1 x) (rowf x 6 (by decide))) (masked (top1 x) (rowf x 7 (by decide)))

/-- The weight of the expert whose logits are row `n`. -/
def wrow (x : FVec F S40x8192 .f32) (p : FVec F S64x128 .f32) (n : ℕ) (hn : n < 40) : FVec F S64x128 .f32 :=
  weight (top1 x) (top2 x) (gate1 (top1 x) (top2 x) p) (subf p (gate1 (top1 x) (top2 x) p)) (rowf x n hn) (masked (top1 x) (rowf x n hn))

/-- The experts' outputs `q`, through `f`, mixed by their weights. -/
def mixq (f : FVec F S64x128 .f32 → FVec F S64x128 .f32) (x : FVec F S40x8192 .f32) (p : FVec F S64x128 .f32) (q : ℕ) (hq : q < 4) : FVec F S64x128 .f32 :=
  mix (wrow x p 0 (by decide)) (wrow x p 1 (by decide)) (wrow x p 2 (by decide)) (wrow x p 3 (by decide)) (wrow x p 4 (by decide)) (wrow x p 5 (by decide)) (wrow x p 6 (by decide)) (wrow x p 7 (by decide))
    (f (rowf x (8 + q) (by omega))) (f (rowf x (12 + q) (by omega))) (f (rowf x (16 + q) (by omega))) (f (rowf x (20 + q) (by omega)))
    (f (rowf x (24 + q) (by omega))) (f (rowf x (28 + q) (by omega))) (f (rowf x (32 + q) (by omega))) (f (rowf x (36 + q) (by omega)))

/-- One colour of the pixels of a block. -/
def colq (x : FVec F S40x8192 .f32) (p : FVec F S64x128 .f32) (q : ℕ) (hq : q < 4) (b : FVec F S1x1 .f32) : FVec F S64x1 .f32 :=
  col (mulf (mixq toAlpha x p 3 (by decide)) (shift (cumprod (subf (cst 0x3F800000#32) (mixq toAlpha x p 3 (by decide))))))
    (cumprod (subf (cst 0x3F800000#32) (mixq toAlpha x p 3 (by decide)))) (mixq logistic x p q hq) b

theorem pixels_eq (x : FVec F S40x8192 .f32) (p : FVec F S64x128 .f32) (b0 b1 b2 : FVec F S1x1 .f32) :
    pixels x p b0 b1 b2 = concatenate S64x3 1 [⟨S64x1, colq x p 0 (by decide) b0⟩, ⟨S64x1, colq x p 1 (by decide) b1⟩, ⟨S64x1, colq x p 2 (by decide) b2⟩] concatenates_S64x1_S64x1_S64x1_S64x3_d1 := rfl

end

/-- The outputs of the gate and the experts at one ray: logits `L`, raw outputs `W`. -/
structure IsOut (x : FVec Ideal S40x8192 .f32) (r : Fin 64) (L : Fin 128 → Fin 8 → EReal) (W : Fin 128 → Fin 8 → Fin 4 → EReal) : Prop where
  l : ∀ l e, (x (ix2 ⟨e.val, by omega⟩ ⟨r.val * 128 + l.val, by omega⟩) : EReal) = L l e
  w : ∀ l e q, (x (ix2 ⟨8 + 4 * e.val + q.val, by omega⟩ ⟨r.val * 128 + l.val, by omega⟩) : EReal) = W l e q

variable {x : FVec Ideal S40x8192 .f32} {p : FVec Ideal S64x128 .f32} {r : Fin 64} {L : Fin 128 → Fin 8 → EReal} {W : Fin 128 → Fin 8 → Fin 4 → EReal} {P : Fin 128 → EReal}

theorem logit_at (h : IsOut x r L W) (l : Fin 128) (e : Fin 8) : (rowf x e.val (by omega) (ix2 r l) : EReal) = L l e := by
  unfold rowf
  rw [row_at x e.val (by omega)]; exact h.l l e

theorem raw_at (h : IsOut x r L W) (l : Fin 128) (e : Fin 8) (q : Fin 4) : (rowf x (8 + 4 * e.val + q.val) (by omega) (ix2 r l) : EReal) = W l e q := by
  unfold rowf
  rw [row_at x (8 + 4 * e.val + q.val) (by omega)]; exact h.w l e q

theorem top1_at (h : IsOut x r L W) (l : Fin 128) : (top1 x (ix2 r l) : EReal) = Moe.top (L l) := by
  unfold top1 Moe.top
  rw [max8_at]
  exact congrArg₂ max (congrArg₂ max (congrArg₂ max (congrArg₂ max (congrArg₂ max (congrArg₂ max (congrArg₂ max (logit_at h l 0) (logit_at h l 1)) (logit_at h l 2)) (logit_at h l 3)) (logit_at h l 4)) (logit_at h l 5)) (logit_at h l 6)) (logit_at h l 7)

theorem rest_at (h : IsOut x r L W) (l : Fin 128) (e : Fin 8) : (masked (top1 x) (rowf x e.val (by omega)) (ix2 r l) : EReal) = Moe.rest (L l) e := by
  rw [masked_at, logit_at h, top1_at h]; rfl

theorem top2_at (h : IsOut x r L W) (l : Fin 128) : (top2 x (ix2 r l) : EReal) = Moe.top (Moe.rest (L l)) := by
  unfold top2 Moe.top
  rw [max8_at]
  exact congrArg₂ max (congrArg₂ max (congrArg₂ max (congrArg₂ max (congrArg₂ max (congrArg₂ max (congrArg₂ max (rest_at h l 0) (rest_at h l 1)) (rest_at h l 2)) (rest_at h l 3)) (rest_at h l 4)) (rest_at h l 5)) (rest_at h l 6)) (rest_at h l 7)

theorem wrow_at (h : IsOut x r L W) (hp : ∀ l, (p (ix2 r l) : EReal) = P l) (l : Fin 128) (e : Fin 8) :
    (wrow x p e.val (by omega) (ix2 r l) : EReal) = Moe.wt (L l) (P l) e := by
  have h1 := top1_at h l
  have h2 := top2_at h l
  have h3 := rest_at h l e
  have h4 := logit_at h l e
  unfold wrow
  generalize masked (top1 x) _ = k at h3 ⊢
  generalize top1 x = t1 at h1 ⊢
  generalize top2 x = t2 at h2 ⊢
  generalize rowf x _ _ = y at h4 ⊢
  pointwise [weight, gate1, cst]
  rw [h1, h2, h3, h4, hp]
  rfl

/-- A mix of the experts' outputs. -/
theorem mixq_at (f : FVec Ideal S64x128 .f32 → FVec Ideal S64x128 .f32) (f' : EReal → EReal) (hf : ∀ y l, (f y (ix2 r l) : EReal) = f' (y (ix2 r l)))
    (h : IsOut x r L W) (hp : ∀ l, (p (ix2 r l) : EReal) = P l) (l : Fin 128) (q : Fin 4) :
    (mixq f x p q.val q.isLt (ix2 r l) : EReal) = ∑ e : Fin 8, Moe.wt (L l) (P l) e * f' (W l e q) := by
  have hm : ∀ e : Fin 8, ((wrow x p e.val (by omega) (ix2 r l) : EReal) * (f (rowf x (8 + 4 * e.val + q.val) (by omega)) (ix2 r l) : EReal))
      = Moe.wt (L l) (P l) e * f' (W l e q) := fun e => by rw [wrow_at h hp, hf, raw_at h]
  rw [Fin.sum_univ_eight]
  unfold mixq mix
  pointwise
  exact congrArg₂ (· + ·) (congrArg₂ (· + ·) (congrArg₂ (· + ·) (congrArg₂ (· + ·) (congrArg₂ (· + ·) (congrArg₂ (· + ·) (congrArg₂ (· + ·) (hm 0) (hm 1)) (hm 2)) (hm 3)) (hm 4)) (hm 5)) (hm 6)) (hm 7)

/-- One colour of a pixel. -/
theorem colq_at (h : IsOut x r L W) (hp : ∀ l, (p (ix2 r l) : EReal) = P l) (q : Fin 4) (b : FVec Ideal S1x1 .f32) (A : Fin 128 → EReal)
    (hA : ∀ l, A l = ∑ e : Fin 8, Moe.wt (L l) (P l) e * Moe.toA (W l e 3)) :
    (colq x p q.val q.isLt b (ix2 r 0) : EReal)
      = ∑ l : Fin 128, A l * Moe.trans A l.val * (∑ e : Fin 8, Moe.wt (L l) (P l) e * Ideal.logistic (W l e q)) + Moe.trans A 128 * b (ix2 0 0) := by
  have ha : ∀ l, (mixq toAlpha x p 3 (by decide) (ix2 r l) : EReal) = A l := fun l =>
    (mixq_at toAlpha Moe.toA (fun y l => toAlpha_at y r l) h hp l 3).trans (hA l).symm
  have hc := fun l => mixq_at logistic Ideal.logistic (fun y l => rfl) h hp l q
  unfold colq
  generalize mixq toAlpha x p 3 _ = a at ha ⊢
  generalize mixq logistic x p q.val _ = c at hc ⊢
  have hs : ∀ l, (subf (cst (F := Ideal) 0x3F800000#32) a (ix2 r l) : EReal) = 1 - A l := fun l => by
    pointwise [cst]; rw [ha]
  have hl := left_at _ A r hs
  have ht := last_at _ A r hs
  generalize cumprod (F := Ideal) _ = t at hl ht ⊢
  generalize shift t = u at hl ⊢
  pointwise [col]
  rw [ht]
  simp only [ha, hl, hc]

/-- The pixels of a block. -/
theorem pixels_at (h : IsOut x r L W) (hp : ∀ l, (p (ix2 r l) : EReal) = P l) (b0 b1 b2 : FVec Ideal S1x1 .f32) (c : Fin 3) (A : Fin 128 → EReal)
    (hA : ∀ l, A l = ∑ e : Fin 8, Moe.wt (L l) (P l) e * Moe.toA (W l e 3)) (bg : Fin 3 → EReal)
    (h0 : (b0 (ix2 0 0) : EReal) = bg 0) (h1 : (b1 (ix2 0 0) : EReal) = bg 1) (h2 : (b2 (ix2 0 0) : EReal) = bg 2) :
    (pixels x p b0 b1 b2 (ix2 r c) : EReal)
      = ∑ l : Fin 128, A l * Moe.trans A l.val * (∑ e : Fin 8, Moe.wt (L l) (P l) e * Ideal.logistic (W l e ⟨c.val, by omega⟩)) + Moe.trans A 128 * bg c := by
  have k0 : (colq x p 0 (by decide) b0 (ix2 r 0) : EReal) = _ := colq_at h hp 0 b0 A hA
  have k1 : (colq x p 1 (by decide) b1 (ix2 r 0) : EReal) = _ := colq_at h hp 1 b1 A hA
  have k2 : (colq x p 2 (by decide) b2 (ix2 r 0) : EReal) = _ := colq_at h hp 2 b2 A hA
  rw [h0] at k0; rw [h1] at k1; rw [h2] at k2
  rw [pixels_eq]
  generalize colq x p 0 _ b0 = z0 at k0 ⊢
  generalize colq x p 1 _ b1 = z1 at k1 ⊢
  generalize colq x p 2 _ b2 = z2 at k2 ⊢
  obtain rfl | rfl | rfl : c = 0 ∨ c = 1 ∨ c = 2 := by omega
  · pointwise
    exact k0
  · pointwise
    exact k1
  · pointwise
    exact k2

end Cert.KernelIdeal.Stage

end
-- ==== Proof.Kernel.Point.lean ====
/-
  What the kernel's body leaves at one grid point: the four blocks of 64 rays, one above the other, each the function
  `Stage.blk` of its slices of the rays, of the packed weights in scratch and of the background colour.
-/
module

public import proofs.«01_k».proof.Proof.Gen.KernelIdeal.Frame
public import proofs.«01_k».proof.Proof.Kernel.Stages
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Stage

open Idealize.ShloMosaic Idealize.ShloMosaic.TcCoe Idealize.SL.Sem Cert.KernelIdeal Cert.KernelIdeal.Gen

variable {F : FTy → Type} [FloatOps F] [Named F]

/-- A write of a rectangle over earlier writes of a two-axis buffer, read at an index: the new value inside the
    rectangle, what was there before outside it. -/
theorem canon_box {R C : ℕ} {e : EltTy} {Val : EltTy → Type} [∀ e, Nonempty (Val e)] (a b p q : ℕ)
    (inb : ∀ x, (![a, b] : Fin 2 → ℕ) x + (![p, q] : Fin 2 → ℕ) x ≤ (⟨2, ![R, C]⟩ : Shape).size x)
    (w : (⟨2, ![p, q]⟩ : Shape).Idx → Val e) (L : List (View.Piece Val (⟨2, ![R, C]⟩ : Shape) e)) (r : Fin R) (k : Fin C) :
    View.canon (⟨Rect.unit (s := ⟨2, ![R, C]⟩) ![a, b] ![p, q] inb, w⟩ :: L) (ix2 r k)
      = if h : (a ≤ r.val ∧ r.val < a + p) ∧ (b ≤ k.val ∧ k.val < b + q)
        then w (ix2 ⟨r.val - a, by omega⟩ ⟨k.val - b, by omega⟩) else View.canon L (ix2 r k) := by
  split
  · rename_i h
    have e : (Rect.unit (s := ⟨2, ![R, C]⟩) ![a, b] ![p, q] inb).emb (ix2 ⟨r.val - a, by omega⟩ ⟨k.val - b, by omega⟩) = ix2 r k := by
      funext x; apply Fin.ext; revert x
      refine Fin.forall_fin_two.mpr ⟨?_, ?_⟩
      · rw [ValueKit.rect_emb_unit_val]; show a + (r.val - a) = r.val; omega
      · rw [ValueKit.rect_emb_unit_val]; show b + (k.val - b) = k.val; omega
    rw [← e]
    exact View.canon_cons_emb (Rect.unit (s := ⟨2, ![R, C]⟩) ![a, b] ![p, q] inb) w L _
  · rename_i h
    refine View.canon_cons_of_not_mem _ L fun hm => h ?_
    have hq := (Rect.mem_set_unit (inb := inb)).mp hm
    have h0 := hq 0
    have h1 := hq 1
    exact ⟨h0, h1⟩

/-- Four blocks of 64 rows written one above the other. -/
def four (f0 f1 f2 f3 : FVec F S64x3 .f32) : Vec F S256x3 .f32 :=
  View.canon [⟨Rect.unit ![192, 0] ![64, 3] inb_S256x3_S64x3_192_0, f3⟩, ⟨Rect.unit ![128, 0] ![64, 3] inb_S256x3_S64x3_128_0, f2⟩,
    ⟨Rect.unit ![64, 0] ![64, 3] inb_S256x3_S64x3_64_0, f1⟩, ⟨Rect.unit ![0, 0] ![64, 3] inb_S256x3_S64x3_0_0, f0⟩]

/-- The 256 pixels of a grid point. -/
def body (v3 : Vec F S1x16x256 .f32) (v5 : Vec F S1x256x16 .f32) (ss : Vec F S128x8192 .bf16) (w1d : Vec F S8x72 .bf16)
    (w2d : Vec F S72x8 .bf16) (w1r : Vec F S8x584 .bf16) (w2r : Vec F S584x40 .bf16) (b0 b1 b2 : Vec F S1x1 .f32) : Vec F S256x3 .f32 :=
  let rd : FVec F S16x256 .f32 := shapeCast S16x256 v3 shapeCasts_S1x16x256_S16x256
  let rr : FVec F S256x16 .f32 := shapeCast S256x16 v5 shapeCasts_S1x256x16_S256x16
  four
    (blk (extractStridedSlice S16x64 ![0, 0] rd slices_S16x256_o0_0_S16x64) (extractStridedSlice S64x16 ![0, 0] rr slices_S256x16_o0_0_S64x16) ss w1d w2d w1r w2r b0 b1 b2)
    (blk (extractStridedSlice S16x64 ![0, 64] rd slices_S16x256_o0_64_S16x64) (extractStridedSlice S64x16 ![64, 0] rr slices_S256x16_o64_0_S64x16) ss w1d w2d w1r w2r b0 b1 b2)
    (blk (extractStridedSlice S16x64 ![0, 128] rd slices_S16x256_o0_128_S16x64) (extractStridedSlice S64x16 ![128, 0] rr slices_S256x16_o128_0_S64x16) ss w1d w2d w1r w2r b0 b1 b2)
    (blk (extractStridedSlice S16x64 ![0, 192] rd slices_S16x256_o0_192_S16x64) (extractStridedSlice S64x16 ![192, 0] rr slices_S256x16_o192_0_S64x16) ss w1d w2d w1r w2r b0 b1 b2)

/-- What a whole buffer of contents `x` reads through the box at `off`. -/
abbrev rd {S : Shape} {e : EltTy} (a : Memref sig .tc .vmem S e) (h : a.IsWhole) (x : Vec F S e) (off : Fin S.rank → ℕ) (sz : Fin S.rank → ℕ)
    (inb : ∀ k, off k + sz k ≤ S.size k) : (⟨S.rank, sz⟩ : Shape).Idx → Elt F e :=
  View.readAt (Elt F) a.view (Rect.unit (s := S) off sz inb).toLoadRect (h.unread x)

/-- Its whole box reads the contents themselves. -/
theorem rd_whole {S : Shape} {e : EltTy} (a : Memref sig .tc .vmem S e) (h : a.IsWhole) (x : Vec F S e) (off : Fin S.rank → ℕ)
    (h0 : off = fun _ => 0) (inb : ∀ k, off k + S.size k ≤ S.size k) : rd a h x off S.size inb = x := by
  subst h0
  show View.ld (a.view.read (Elt F) (h.unread x)) (Rect.unit (s := S) (fun _ => 0) S.size inb) = x
  rw [h.read_unread]
  exact View.ld_unit_zero (S := S) rfl inb x

/-- The entry of the background's row that a one-element box reads. -/
def entry (x : Vec F S8x128 .f32) (k : Fin 128) : Vec F S1x1 .f32 := fun _ => x (ix2 0 k)

/-- A grid point that finds the weights packed writes the pixels computed from them. -/
theorem outB_eq (c : Dev nD) (i : grid0.Coords) (arg1 : Memref sig .tc .vmem S1x16x256 .f32) (harg1 : arg1.IsWhole) (arg2 : Memref sig .tc .vmem S1x256x16 .f32) (harg2 : arg2.IsWhole) (arg3 : Memref sig .tc .vmem S128x8192 .bf16) (harg3 : arg3.IsWhole) (arg4 : Memref sig .tc .vmem S3x64 .f32) (harg4 : arg4.IsWhole) (arg5 : Memref sig .tc .vmem S6x64 .f32) (harg5 : arg5.IsWhole) (arg6 : Memref sig .tc .vmem S8x6x64 .f32) (harg6 : arg6.IsWhole) (arg7 : Memref sig .tc .vmem S8x64 .f32) (harg7 : arg7.IsWhole) (arg8 : Memref sig .tc .vmem S64x1 .f32) (harg8 : arg8.IsWhole) (arg9 : Memref sig .tc .vmem S64x8 .f32) (harg9 : arg9.IsWhole) (arg10 : Memref sig .tc .vmem S8x64x4 .f32) (harg10 : arg10.IsWhole) (arg11 : Memref sig .tc .vmem S8x128 .f32) (harg11 : arg11.IsWhole) (arg12 : Memref sig .tc .vmem S256x3 .f32) (harg12 : arg12.IsWhole) (arg13 : Memref sig .tc .vmem S8x72 .bf16) (harg13 : arg13.IsWhole) (arg14 : Memref sig .tc .vmem S72x8 .bf16) (harg14 : arg14.IsWhole) (arg15 : Memref sig .tc .vmem S8x584 .bf16) (harg15 : arg15.IsWhole) (arg16 : Memref sig .tc .vmem S584x40 .bf16) (harg16 : arg16.IsWhole) (hc0 : ¬cond0_0 i)
    (x0 : Vec F S1x16x256 .f32) (x1 : Vec F S1x256x16 .f32) (x2 : Vec F S128x8192 .bf16) (x3 : Vec F S3x64 .f32) (x4 : Vec F S6x64 .f32) (x5 : Vec F S8x6x64 .f32) (x6 : Vec F S8x64 .f32) (x7 : Vec F S64x1 .f32) (x8 : Vec F S64x8 .f32) (x9 : Vec F S8x64x4 .f32) (x10 : Vec F S8x128 .f32) (s0 : Vec F S8x72 .bf16) (s1 : Vec F S72x8 .bf16) (s2 : Vec F S8x584 .bf16) (s3 : Vec F S584x40 .bf16) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2 s3
      = body x0 x1 x2 s0 s1 s2 s3 (entry x10 0) (entry x10 1) (entry x10 2) := by
  have e0 : rd arg11 harg11 x10 ![0, 0] ![1, 1] inb_S8x128_S1x1_0_0 = entry x10 0 := by
    show View.ld (arg11.view.read (Elt F) (harg11.unread x10)) _ = _
    rw [harg11.read_unread]; funext j; unfold entry; pointwise
  have e1 : rd arg11 harg11 x10 ![0, 1] ![1, 1] inb_S8x128_S1x1_0_1 = entry x10 1 := by
    show View.ld (arg11.view.read (Elt F) (harg11.unread x10)) _ = _
    rw [harg11.read_unread]; funext j; unfold entry; pointwise
  have e2 : rd arg11 harg11 x10 ![0, 2] ![1, 1] inb_S8x128_S1x1_0_2 = entry x10 2 := by
    show View.ld (arg11.view.read (Elt F) (harg11.unread x10)) _ = _
    rw [harg11.read_unread]; funext j; unfold entry; pointwise
  have z3 : (![0, 0, 0] : Fin 3 → ℕ) = fun _ => 0 := by decide
  have z2 : (![0, 0] : Fin 2 → ℕ) = fun _ => 0 := by decide
  unfold out0_B_11
  rw [View.read_writes_junk_eq_canon]
  refine Eq.trans (b := body (rd arg1 harg1 x0 ![0, 0, 0] S1x16x256.size inb_S1x16x256_S1x16x256_0_0_0)
    (rd arg2 harg2 x1 ![0, 0, 0] S1x256x16.size inb_S1x256x16_S1x256x16_0_0_0) (rd arg3 harg3 x2 ![0, 0] S128x8192.size inb_S128x8192_S128x8192_0_0)
    (rd arg13 harg13 s0 ![0, 0] S8x72.size inb_S8x72_S8x72_0_0) (rd arg14 harg14 s1 ![0, 0] S72x8.size inb_S72x8_S72x8_0_0)
    (rd arg15 harg15 s2 ![0, 0] S8x584.size inb_S8x584_S8x584_0_0) (rd arg16 harg16 s3 ![0, 0] S584x40.size inb_S584x40_S584x40_0_0)
    (rd arg11 harg11 x10 ![0, 0] ![1, 1] inb_S8x128_S1x1_0_0) (rd arg11 harg11 x10 ![0, 1] ![1, 1] inb_S8x128_S1x1_0_1)
    (rd arg11 harg11 x10 ![0, 2] ![1, 1] inb_S8x128_S1x1_0_2)) rfl ?_
  rw [e0, e1, e2, rd_whole _ _ _ _ z3, rd_whole _ _ _ _ z3, rd_whole _ _ _ _ z2, rd_whole _ _ _ _ z2, rd_whole _ _ _ _ z2,
    rd_whole _ _ _ _ z2, rd_whole _ _ _ _ z2]

/-- The first grid point packs the weights, then writes the pixels computed from them. -/
theorem outA_eq (c : Dev nD) (i : grid0.Coords) (arg1 : Memref sig .tc .vmem S1x16x256 .f32) (harg1 : arg1.IsWhole) (arg2 : Memref sig .tc .vmem S1x256x16 .f32) (harg2 : arg2.IsWhole) (arg3 : Memref sig .tc .vmem S128x8192 .bf16) (harg3 : arg3.IsWhole) (arg4 : Memref sig .tc .vmem S3x64 .f32) (harg4 : arg4.IsWhole) (arg5 : Memref sig .tc .vmem S6x64 .f32) (harg5 : arg5.IsWhole) (arg6 : Memref sig .tc .vmem S8x6x64 .f32) (harg6 : arg6.IsWhole) (arg7 : Memref sig .tc .vmem S8x64 .f32) (harg7 : arg7.IsWhole) (arg8 : Memref sig .tc .vmem S64x1 .f32) (harg8 : arg8.IsWhole) (arg9 : Memref sig .tc .vmem S64x8 .f32) (harg9 : arg9.IsWhole) (arg10 : Memref sig .tc .vmem S8x64x4 .f32) (harg10 : arg10.IsWhole) (arg11 : Memref sig .tc .vmem S8x128 .f32) (harg11 : arg11.IsWhole) (arg12 : Memref sig .tc .vmem S256x3 .f32) (harg12 : arg12.IsWhole) (arg13 : Memref sig .tc .vmem S8x72 .bf16) (harg13 : arg13.IsWhole) (arg14 : Memref sig .tc .vmem S72x8 .bf16) (harg14 : arg14.IsWhole) (arg15 : Memref sig .tc .vmem S8x584 .bf16) (harg15 : arg15.IsWhole) (arg16 : Memref sig .tc .vmem S584x40 .bf16) (harg16 : arg16.IsWhole) (hc0 : cond0_0 i)
    (x0 : Vec F S1x16x256 .f32) (x1 : Vec F S1x256x16 .f32) (x2 : Vec F S128x8192 .bf16) (x3 : Vec F S3x64 .f32) (x4 : Vec F S6x64 .f32) (x5 : Vec F S8x6x64 .f32) (x6 : Vec F S8x64 .f32) (x7 : Vec F S64x1 .f32) (x8 : Vec F S64x8 .f32) (x9 : Vec F S8x64x4 .f32) (x10 : Vec F S8x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10
      = body x0 x1 x2 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)
          (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10) (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)
          (entry x10 0) (entry x10 1) (entry x10 2) := by
  have e0 : rd arg11 harg11 x10 ![0, 0] ![1, 1] inb_S8x128_S1x1_0_0 = entry x10 0 := by
    show View.ld (arg11.view.read (Elt F) (harg11.unread x10)) _ = _
    rw [harg11.read_unread]; funext j; unfold entry; pointwise
  have e1 : rd arg11 harg11 x10 ![0, 1] ![1, 1] inb_S8x128_S1x1_0_1 = entry x10 1 := by
    show View.ld (arg11.view.read (Elt F) (harg11.unread x10)) _ = _
    rw [harg11.read_unread]; funext j; unfold entry; pointwise
  have e2 : rd arg11 harg11 x10 ![0, 2] ![1, 1] inb_S8x128_S1x1_0_2 = entry x10 2 := by
    show View.ld (arg11.view.read (Elt F) (harg11.unread x10)) _ = _
    rw [harg11.read_unread]; funext j; unfold entry; pointwise
  have z3 : (![0, 0, 0] : Fin 3 → ℕ) = fun _ => 0 := by decide
  have z2 : (![0, 0] : Fin 2 → ℕ) = fun _ => 0 := by decide
  have k0 : (kernelRun0_A.sl.v32 c arg4 harg4 arg11 harg11 arg13 x3 x10 : Vec F S8x72 .bf16) = sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 := by
    unfold sout0_A_0; rw [View.read_writes_junk_eq_canon]
    refine (View.readCov_eq_canon' _ _ _).trans ?_
    exact View.ld_unit_zero z2 _ _
  have k1 : (kernelRun0_A.sl.v37 c arg8 harg8 arg11 harg11 arg14 x7 x10 : Vec F S72x8 .bf16) = sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 := by
    unfold sout0_A_1; rw [View.read_writes_junk_eq_canon]
    refine (View.readCov_eq_canon' _ _ _).trans ?_
    exact View.ld_unit_zero z2 _ _
  have k2 : (kernelRun0_A.sl.v39 c arg5 harg5 arg6 harg6 arg7 harg7 arg11 harg11 arg15 x4 x5 x6 x10 : Vec F S8x584 .bf16) = sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 := by
    unfold sout0_A_2; rw [View.read_writes_junk_eq_canon]
    refine (View.readCov_eq_canon' _ _ _).trans ?_
    exact View.ld_unit_zero z2 _ _
  have k3 : (kernelRun0_A.sl.v44 c arg9 harg9 arg10 harg10 arg11 harg11 arg16 x8 x9 x10 : Vec F S584x40 .bf16) = sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 := by
    unfold sout0_A_3; rw [View.read_writes_junk_eq_canon]
    refine (View.readCov_eq_canon' _ _ _).trans ?_
    exact View.ld_unit_zero z2 _ _
  rw [← k0, ← k1, ← k2, ← k3]
  unfold out0_A_11
  rw [View.read_writes_junk_eq_canon]
  refine Eq.trans (b := body (rd arg1 harg1 x0 ![0, 0, 0] S1x16x256.size inb_S1x16x256_S1x16x256_0_0_0)
    (rd arg2 harg2 x1 ![0, 0, 0] S1x256x16.size inb_S1x256x16_S1x256x16_0_0_0) (rd arg3 harg3 x2 ![0, 0] S128x8192.size inb_S128x8192_S128x8192_0_0)
    (kernelRun0_A.sl.v32 c arg4 harg4 arg11 harg11 arg13 x3 x10) (kernelRun0_A.sl.v37 c arg8 harg8 arg11 harg11 arg14 x7 x10)
    (kernelRun0_A.sl.v39 c arg5 harg5 arg6 harg6 arg7 harg7 arg11 harg11 arg15 x4 x5 x6 x10) (kernelRun0_A.sl.v44 c arg9 harg9 arg10 harg10 arg11 harg11 arg16 x8 x9 x10)
    (rd arg11 harg11 x10 ![0, 0] ![1, 1] inb_S8x128_S1x1_0_0) (rd arg11 harg11 x10 ![0, 1] ![1, 1] inb_S8x128_S1x1_0_1)
    (rd arg11 harg11 x10 ![0, 2] ![1, 1] inb_S8x128_S1x1_0_2)) rfl ?_
  rw [e0, e1, e2, rd_whole _ _ _ _ z3, rd_whole _ _ _ _ z3, rd_whole _ _ _ _ z2]

end Cert.KernelIdeal.Stage

end
-- ==== Proof.Kernel.Pack.lean ====
/-
  The packed weights that the first grid point leaves in scratch, as tables of the weights they are packed from.
-/
module

public import proofs.«01_k».proof.Proof.Kernel.Point

@[expose] public section

set_option maxRecDepth 16384

noncomputable section

namespace Cert.KernelIdeal.Stage

open Idealize.ShloMosaic Idealize.ShloMosaic.TcCoe Idealize.SL.Sem Cert.KernelIdeal Cert.KernelIdeal.Gen

section
variable {F : FTy → Type} [FloatOps F] [Named F]

/-- A vector of zeros. -/
abbrev zer (S : Shape) : FVec F S .f32 := broadcast S (FloatOps.ofBits FTy.f32 0x00000000#32 : F .f32)

/-- A row of eight ones. -/
abbrev ones8 : FVec F S1x8 .f32 := addf (zer S1x8) (broadcast S1x8 (FloatOps.ofBits FTy.f32 0x3F800000#32 : F .f32))

/-- Zeros in the narrow format. -/
abbrev zeb (S : Shape) : FVec F S .bf16 := broadcast S (FloatOps.ofBits FTy.bf16 0x0000#16 : F .bf16)

/-- The density network's first layer, its bias in row 7. -/
def pw1d (wd : Vec F S3x64 .f32) (ms : Vec F S8x128 .f32) : Vec F S8x72 .bf16 :=
  View.canon [⟨Rect.unit ![6, 0] ![2, 72] inb_S8x72_S2x72_6_0, shapeCast S2x72 (truncf .bf16 (concatenate S2x72 0 [⟨S1x72, zer S1x72⟩,
      ⟨S1x72, concatenate S1x72 1 [⟨S1x64, shapeCast S1x64 (View.ld ms (Rect.unit (s := S8x128) ![4, 0] S1x64.size inb_S8x128_S1x64_4_0)) shapeCasts_S1x64_S1x64⟩, ⟨S1x8, ones8⟩] concatenates_S1x64_S1x8_S1x72_d1⟩]
      concatenates_S1x72_S1x72_S2x72_d0) bitsLt_bf16_f32 : FVec F S2x72 .bf16) shapeCasts_S2x72_S2x72⟩,
    ⟨Rect.unit ![0, 0] ![4, 72] inb_S8x72_S4x72_0_0, shapeCast S4x72 (truncf .bf16 (concatenate S4x72 0 [⟨S3x72, concatenate S3x72 1
      [⟨S3x64, (View.ld wd (Rect.unit (s := S3x64) ![0, 0] S3x64.size inb_S3x64_S3x64_0_0) : FVec F S3x64 .f32)⟩, ⟨S3x8, zer S3x8⟩] concatenates_S3x64_S3x8_S3x72_d1⟩, ⟨S1x72, zer S1x72⟩]
      concatenates_S3x72_S1x72_S4x72_d0) bitsLt_bf16_f32 : FVec F S4x72 .bf16) shapeCasts_S4x72_S4x72⟩,
    ⟨Rect.unit ![0, 0] ![8, 72] inb_S8x72_S8x72_0_0, shapeCast S8x72 (zeb S8x72) shapeCasts_S8x72_S8x72⟩]

/-- The density network's second layer, its bias in row 64. -/
def pw2d (wd : Vec F S64x1 .f32) (ms : Vec F S8x128 .f32) : Vec F S72x8 .bf16 :=
  View.canon [⟨Rect.unit ![64, 0] ![8, 8] inb_S72x8_S8x8_64_0, shapeCast S8x8 (truncf .bf16 (concatenate S8x8 0 [⟨S1x8, concatenate S1x8 1
      [⟨S1x1, shapeCast S1x1 (View.ld ms (Rect.unit (s := S8x128) ![1, 0] S1x1.size inb_S8x128_S1x1_1_0)) shapeCasts_S1x1_S1x1⟩, ⟨S1x7, zer S1x7⟩] concatenates_S1x1_S1x7_S1x8_d1⟩,
      ⟨S7x8, zer S7x8⟩] concatenates_S1x8_S7x8_S8x8_d0) bitsLt_bf16_f32 : FVec F S8x8 .bf16) shapeCasts_S8x8_S8x8⟩,
    ⟨Rect.unit ![0, 0] ![64, 1] inb_S72x8_S64x1_0_0, shapeCast S64x1 (truncf .bf16 (View.ld wd (Rect.unit (s := S64x1) ![0, 0] S64x1.size inb_S64x1_S64x1_0_0) : FVec F S64x1 .f32) bitsLt_bf16_f32 : FVec F S64x1 .bf16) shapeCasts_S64x1_S64x1⟩,
    ⟨Rect.unit ![0, 0] ![72, 8] inb_S72x8_S72x8_0_0, shapeCast S72x8 (zeb S72x8) shapeCasts_S72x8_S72x8⟩]

/-- Expert `e`'s first layer. -/
abbrev ex1 (we : Vec F S8x6x64 .f32) (e : ℕ) (h : ∀ k, (![e, 0, 0] : Fin 3 → ℕ) k + S1x6x64.size k ≤ S8x6x64.size k) : FVec F S6x64 .f32 :=
  shapeCast S6x64 (View.ld we (Rect.unit (s := S8x6x64) ![e, 0, 0] S1x6x64.size h)) shapeCasts_S1x6x64_S6x64

/-- Expert `e`'s first bias. -/
abbrev eb1 (be : Vec F S8x64 .f32) (e : ℕ) (h : ∀ k, (![e, 0] : Fin 2 → ℕ) k + S1x64.size k ≤ S8x64.size k) : FVec F S1x64 .f32 :=
  View.ld be (Rect.unit (s := S8x64) ![e, 0] S1x64.size h)

/-- The first layers of the gate and of the experts side by side, their biases in row 7. -/
def pw1r (wg : Vec F S6x64 .f32) (we : Vec F S8x6x64 .f32) (be : Vec F S8x64 .f32) (ms : Vec F S8x128 .f32) : Vec F S8x584 .bf16 :=
  View.canon [⟨Rect.unit ![6, 0] ![2, 584] inb_S8x584_S2x584_6_0, shapeCast S2x584 (truncf .bf16 (concatenate S2x584 0 [⟨S1x584, zer S1x584⟩,
      ⟨S1x584, concatenate S1x584 1 [⟨S1x64, shapeCast S1x64 (View.ld ms (Rect.unit (s := S8x128) ![5, 0] S1x64.size inb_S8x128_S1x64_5_0)) shapeCasts_S1x64_S1x64⟩,
        ⟨S1x64, eb1 be 0 inb_S8x64_S1x64_0_0⟩, ⟨S1x64, eb1 be 1 inb_S8x64_S1x64_1_0⟩, ⟨S1x64, eb1 be 2 inb_S8x64_S1x64_2_0⟩, ⟨S1x64, eb1 be 3 inb_S8x64_S1x64_3_0⟩, ⟨S1x64, eb1 be 4 inb_S8x64_S1x64_4_0⟩, ⟨S1x64, eb1 be 5 inb_S8x64_S1x64_5_0⟩, ⟨S1x64, eb1 be 6 inb_S8x64_S1x64_6_0⟩, ⟨S1x64, eb1 be 7 inb_S8x64_S1x64_7_0⟩, ⟨S1x8, ones8⟩]
        concatenates_S1x64_S1x64_S1x64_S1x64_S1x64_S1x64_S1x64_S1x64_S1x64_S1x8_S1x584_d1⟩]
      concatenates_S1x584_S1x584_S2x584_d0) bitsLt_bf16_f32 : FVec F S2x584 .bf16) shapeCasts_S2x584_S2x584⟩,
    ⟨Rect.unit ![0, 0] ![6, 584] inb_S8x584_S6x584_0_0, shapeCast S6x584 (truncf .bf16 (concatenate S6x584 1
      [⟨S6x64, (View.ld wg (Rect.unit (s := S6x64) ![0, 0] S6x64.size inb_S6x64_S6x64_0_0) : FVec F S6x64 .f32)⟩,
        ⟨S6x64, ex1 we 0 inb_S8x6x64_S1x6x64_0_0_0⟩, ⟨S6x64, ex1 we 1 inb_S8x6x64_S1x6x64_1_0_0⟩, ⟨S6x64, ex1 we 2 inb_S8x6x64_S1x6x64_2_0_0⟩, ⟨S6x64, ex1 we 3 inb_S8x6x64_S1x6x64_3_0_0⟩, ⟨S6x64, ex1 we 4 inb_S8x6x64_S1x6x64_4_0_0⟩, ⟨S6x64, ex1 we 5 inb_S8x6x64_S1x6x64_5_0_0⟩, ⟨S6x64, ex1 we 6 inb_S8x6x64_S1x6x64_6_0_0⟩, ⟨S6x64, ex1 we 7 inb_S8x6x64_S1x6x64_7_0_0⟩, ⟨S6x8, zer S6x8⟩]
      concatenates_S6x64_S6x64_S6x64_S6x64_S6x64_S6x64_S6x64_S6x64_S6x64_S6x8_S6x584_d1) bitsLt_bf16_f32 : FVec F S6x584 .bf16) shapeCasts_S6x584_S6x584⟩,
    ⟨Rect.unit ![0, 0] ![8, 584] inb_S8x584_S8x584_0_0, shapeCast S8x584 (zeb S8x584) shapeCasts_S8x584_S8x584⟩]

/-- Expert `e`'s second layer. -/
abbrev ex2 (we : Vec F S8x64x4 .f32) (e : ℕ) (h : ∀ k, (![e, 0, 0] : Fin 3 → ℕ) k + S1x64x4.size k ≤ S8x64x4.size k) : FVec F S64x4 .bf16 :=
  shapeCast S64x4 (truncf .bf16 (shapeCast S64x4 (View.ld we (Rect.unit (s := S8x64x4) ![e, 0, 0] S1x64x4.size h)) shapeCasts_S1x64x4_S64x4 : FVec F S64x4 .f32) bitsLt_bf16_f32 : FVec F S64x4 .bf16) shapeCasts_S64x4_S64x4

/-- The second layers of the gate and of the experts in blocks, their biases in row 576. -/
def pw2r (wg : Vec F S64x8 .f32) (we : Vec F S8x64x4 .f32) (ms : Vec F S8x128 .f32) : Vec F S584x40 .bf16 :=
  View.canon [⟨Rect.unit ![576, 0] ![8, 40] inb_S584x40_S8x40_576_0, shapeCast S8x40 (truncf .bf16 (concatenate S8x40 0 [⟨S1x40, concatenate S1x40 1
      [⟨S1x8, shapeCast S1x8 (View.ld ms (Rect.unit (s := S8x128) ![2, 0] S1x8.size inb_S8x128_S1x8_2_0)) shapeCasts_S1x8_S1x8⟩,
        ⟨S1x32, shapeCast S1x32 (View.ld ms (Rect.unit (s := S8x128) ![3, 0] S1x32.size inb_S8x128_S1x32_3_0)) shapeCasts_S1x32_S1x32⟩] concatenates_S1x8_S1x32_S1x40_d1⟩,
      ⟨S7x40, zer S7x40⟩] concatenates_S1x40_S7x40_S8x40_d0) bitsLt_bf16_f32 : FVec F S8x40 .bf16) shapeCasts_S8x40_S8x40⟩,
    ⟨Rect.unit ![512, 36] ![64, 4] inb_S584x40_S64x4_512_36, ex2 we 7 inb_S8x64x4_S1x64x4_7_0_0⟩, ⟨Rect.unit ![448, 32] ![64, 4] inb_S584x40_S64x4_448_32, ex2 we 6 inb_S8x64x4_S1x64x4_6_0_0⟩, ⟨Rect.unit ![384, 28] ![64, 4] inb_S584x40_S64x4_384_28, ex2 we 5 inb_S8x64x4_S1x64x4_5_0_0⟩, ⟨Rect.unit ![320, 24] ![64, 4] inb_S584x40_S64x4_320_24, ex2 we 4 inb_S8x64x4_S1x64x4_4_0_0⟩, ⟨Rect.unit ![256, 20] ![64, 4] inb_S584x40_S64x4_256_20, ex2 we 3 inb_S8x64x4_S1x64x4_3_0_0⟩, ⟨Rect.unit ![192, 16] ![64, 4] inb_S584x40_S64x4_192_16, ex2 we 2 inb_S8x64x4_S1x64x4_2_0_0⟩, ⟨Rect.unit ![128, 12] ![64, 4] inb_S584x40_S64x4_128_12, ex2 we 1 inb_S8x64x4_S1x64x4_1_0_0⟩, ⟨Rect.unit ![64, 8] ![64, 4] inb_S584x40_S64x4_64_8, ex2 we 0 inb_S8x64x4_S1x64x4_0_0_0⟩,
    ⟨Rect.unit ![0, 0] ![64, 8] inb_S584x40_S64x8_0_0, shapeCast S64x8 (truncf .bf16 (View.ld wg (Rect.unit (s := S64x8) ![0, 0] S64x8.size inb_S64x8_S64x8_0_0) : FVec F S64x8 .f32) bitsLt_bf16_f32 : FVec F S64x8 .bf16) shapeCasts_S64x8_S64x8⟩,
    ⟨Rect.unit ![0, 0] ![584, 40] inb_S584x40_S584x40_0_0, shapeCast S584x40 (zeb S584x40) shapeCasts_S584x40_S584x40⟩]

/-- The first grid point leaves these tables in scratch. -/
theorem scratch_eq (c : Dev nD) (i : grid0.Coords) (arg1 : Memref sig .tc .vmem S1x16x256 .f32) (harg1 : arg1.IsWhole) (arg2 : Memref sig .tc .vmem S1x256x16 .f32) (harg2 : arg2.IsWhole) (arg3 : Memref sig .tc .vmem S128x8192 .bf16) (harg3 : arg3.IsWhole) (arg4 : Memref sig .tc .vmem S3x64 .f32) (harg4 : arg4.IsWhole) (arg5 : Memref sig .tc .vmem S6x64 .f32) (harg5 : arg5.IsWhole) (arg6 : Memref sig .tc .vmem S8x6x64 .f32) (harg6 : arg6.IsWhole) (arg7 : Memref sig .tc .vmem S8x64 .f32) (harg7 : arg7.IsWhole) (arg8 : Memref sig .tc .vmem S64x1 .f32) (harg8 : arg8.IsWhole) (arg9 : Memref sig .tc .vmem S64x8 .f32) (harg9 : arg9.IsWhole) (arg10 : Memref sig .tc .vmem S8x64x4 .f32) (harg10 : arg10.IsWhole) (arg11 : Memref sig .tc .vmem S8x128 .f32) (harg11 : arg11.IsWhole) (arg12 : Memref sig .tc .vmem S256x3 .f32) (harg12 : arg12.IsWhole) (arg13 : Memref sig .tc .vmem S8x72 .bf16) (harg13 : arg13.IsWhole) (arg14 : Memref sig .tc .vmem S72x8 .bf16) (harg14 : arg14.IsWhole) (arg15 : Memref sig .tc .vmem S8x584 .bf16) (harg15 : arg15.IsWhole) (arg16 : Memref sig .tc .vmem S584x40 .bf16) (harg16 : arg16.IsWhole) (hc0 : cond0_0 i)
    (x0 : Vec F S1x16x256 .f32) (x1 : Vec F S1x256x16 .f32) (x2 : Vec F S128x8192 .bf16) (x3 : Vec F S3x64 .f32) (x4 : Vec F S6x64 .f32) (x5 : Vec F S8x6x64 .f32) (x6 : Vec F S8x64 .f32) (x7 : Vec F S64x1 .f32) (x8 : Vec F S64x8 .f32) (x9 : Vec F S8x64x4 .f32) (x10 : Vec F S8x128 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = pw1d x3 x10 ∧ sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = pw2d x7 x10
      ∧ sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = pw1r x4 x5 x6 x10 ∧ sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = pw2r x8 x9 x10 := by
  refine ⟨?_, ?_, ?_, ?_⟩
  · unfold sout0_A_0; rw [View.read_writes_junk_eq_canon]
    refine Eq.trans (b := pw1d (arg4.view.read (Elt F) (harg4.unread x3)) (arg11.view.read (Elt F) (harg11.unread x10))) rfl ?_
    rw [harg4.read_unread, harg11.read_unread]
  · unfold sout0_A_1; rw [View.read_writes_junk_eq_canon]
    refine Eq.trans (b := pw2d (arg8.view.read (Elt F) (harg8.unread x7)) (arg11.view.read (Elt F) (harg11.unread x10))) rfl ?_
    rw [harg8.read_unread, harg11.read_unread]
  · unfold sout0_A_2; rw [View.read_writes_junk_eq_canon]
    refine Eq.trans (b := pw1r (arg5.view.read (Elt F) (harg5.unread x4)) (arg6.view.read (Elt F) (harg6.unread x5))
      (arg7.view.read (Elt F) (harg7.unread x6)) (arg11.view.read (Elt F) (harg11.unread x10))) rfl ?_
    rw [harg5.read_unread, harg6.read_unread, harg7.read_unread, harg11.read_unread]
  · unfold sout0_A_3; rw [View.read_writes_junk_eq_canon]
    refine Eq.trans (b := pw2r (arg9.view.read (Elt F) (harg9.unread x8)) (arg10.view.read (Elt F) (harg10.unread x9))
      (arg11.view.read (Elt F) (harg11.unread x10))) rfl ?_
    rw [harg9.read_unread, harg10.read_unread, harg11.read_unread]
end

end Cert.KernelIdeal.Stage

end
-- ==== Proof.Kernel.Table.lean ====
/-
  The entries of the packed weights, over the extended reals.
-/
module

public import proofs.«01_k».proof.Proof.Kernel.Pack

@[expose] public section

set_option maxRecDepth 16384

noncomputable section

namespace Cert.KernelIdeal.Stage

open Idealize.ShloMosaic Idealize.ShloMosaic.TcCoe Idealize.SL.Sem Cert.KernelIdeal Cert.KernelIdeal.Gen

theorem zero_bf16 : (FloatOps.ofBits FTy.bf16 0x0000#16 : Ideal .bf16) = (0 : EReal) := by
  show Ideal.ofBits FTy.bf16 0x0000#16 = 0
  simp [Ideal.ofBits, Ideal.ieee]

theorem zeb_at (S : Shape) (j : S.Idx) : (zeb S : FVec Ideal S .bf16) j = (0 : EReal) := zero_bf16

/-- Column `k` of the density network's first layer. -/
theorem pw1d_unit (wd : Vec Ideal S3x64 .f32) (ms : Vec Ideal S8x128 .f32) (j : Fin 8) (k : Fin 64) :
    (pw1d wd ms (ix2 j ⟨k.val, by omega⟩) : EReal) = if j.val = 7 then ms (ix2 4 ⟨k.val, by omega⟩) else if h : j.val < 3 then wd (ix2 ⟨j.val, h⟩ k) else 0 := by
  unfold pw1d
  rw [canon_box, canon_box, canon_box]
  split_ifs <;> (try omega) <;> pointwise <;> split_ifs <;> first | rfl | omega

/-- Its column 64 is the unit column. -/
theorem pw1d_one (wd : Vec Ideal S3x64 .f32) (ms : Vec Ideal S8x128 .f32) (j : Fin 8) :
    (pw1d wd ms (ix2 j 64) : EReal) = if j.val = 7 then 1 else 0 := by
  unfold pw1d
  rw [canon_box, canon_box, canon_box]
  split_ifs <;> (try omega) <;> pointwise <;> (try split_ifs) <;> (try omega) <;> (try simp)

/-- The density network's second layer. -/
theorem pw2d_unit (wd : Vec Ideal S64x1 .f32) (ms : Vec Ideal S8x128 .f32) (k : Fin 64) :
    (pw2d wd ms (ix2 ⟨k.val, by omega⟩ 0) : EReal) = wd (ix2 k 0) := by
  have hk := k.isLt
  unfold pw2d
  rw [canon_box, canon_box, canon_box]
  rw [dif_neg (by (try dsimp only) <;> omega), dif_pos (by dsimp only; exact ⟨by omega, by decide⟩)]
  pointwise

/-- Its bias. -/
theorem pw2d_bias (wd : Vec Ideal S64x1 .f32) (ms : Vec Ideal S8x128 .f32) :
    (pw2d wd ms (ix2 64 0) : EReal) = ms (ix2 1 0) := by
  unfold pw2d
  rw [canon_box, dif_pos (by decide)]
  pointwise

/-- Zeros below. -/
theorem pw2d_zero (wd : Vec Ideal S64x1 .f32) (ms : Vec Ideal S8x128 .f32) (k : Fin 72) (h : 64 < k.val) :
    (pw2d wd ms (ix2 k 0) : EReal) = 0 := by
  have hk := k.isLt
  unfold pw2d
  rw [canon_box, dif_pos ⟨by omega, by decide⟩]
  pointwise
  rw [dif_neg (by omega)]

/-- Column `k` of the gate's first layer. -/
theorem pw1r_gate (wg : Vec Ideal S6x64 .f32) (we : Vec Ideal S8x6x64 .f32) (be : Vec Ideal S8x64 .f32) (ms : Vec Ideal S8x128 .f32) (j : Fin 8) (k : Fin 64) :
    (pw1r wg we be ms (ix2 j ⟨k.val, by omega⟩) : EReal) = if j.val = 7 then ms (ix2 5 ⟨k.val, by omega⟩) else if h : j.val < 6 then wg (ix2 ⟨j.val, h⟩ k) else 0 := by
  unfold pw1r
  rw [canon_box, canon_box, canon_box]
  split_ifs <;> (try omega) <;> pointwise <;> split_ifs <;> first | rfl | omega

/-- Column `k` of expert `e`'s first layer. -/
theorem pw1r_exp (wg : Vec Ideal S6x64 .f32) (we : Vec Ideal S8x6x64 .f32) (be : Vec Ideal S8x64 .f32) (ms : Vec Ideal S8x128 .f32) (j : Fin 8) (e : Fin 8) (k : Fin 64) :
    (pw1r wg we be ms (ix2 j ⟨64 + 64 * e.val + k.val, by omega⟩) : EReal) = if j.val = 7 then be (ix2 e k) else if h : j.val < 6 then we (ix3 e ⟨j.val, h⟩ k) else 0 := by
  have hk := k.isLt
  unfold pw1r
  rw [canon_box, canon_box, canon_box]
  fin_cases e <;> split_ifs <;> (try omega) <;> pointwise <;>
    repeat (first | rw [dif_pos (by omega)] | rw [dif_neg (by omega)])
  all_goals (try unfold eb1)
  all_goals (try pointwise)
  all_goals first
    | exact congrArg _ (congrArg _ (Fin.ext (by (try dsimp only) <;> omega)))
    | exact congrArg be (congrArg₂ ix2 (Fin.ext (by (try dsimp only) <;> omega)) (Fin.ext (by (try dsimp only) <;> omega)))
    | exact congrArg be (congrArg₂ ix2 (Fin.ext (by (try dsimp only) <;> omega)) rfl)

/-- Column 576 is the unit column. -/
theorem pw1r_one (wg : Vec Ideal S6x64 .f32) (we : Vec Ideal S8x6x64 .f32) (be : Vec Ideal S8x64 .f32) (ms : Vec Ideal S8x128 .f32) (j : Fin 8) :
    (pw1r wg we be ms (ix2 j 576) : EReal) = if j.val = 7 then 1 else 0 := by
  unfold pw1r
  rw [canon_box, canon_box, canon_box]
  split_ifs <;> (try omega) <;> pointwise <;> (try split_ifs) <;> (try omega) <;> (try simp)

/-- The gate's second layer. -/
theorem pw2r_gate (wg : Vec Ideal S64x8 .f32) (we : Vec Ideal S8x64x4 .f32) (ms : Vec Ideal S8x128 .f32) (k : Fin 584) (n : Fin 8) :
    (pw2r wg we ms (ix2 k ⟨n.val, by omega⟩) : EReal) = if h : k.val < 64 then wg (ix2 ⟨k.val, h⟩ n) else if k.val = 576 then ms (ix2 2 ⟨n.val, by omega⟩) else 0 := by
  have hn := n.isLt
  have hk := k.isLt
  unfold pw2r
  simp only [canon_box]
  by_cases h2 : 576 ≤ k.val
  · rw [dif_pos (by omega), dif_neg (show ¬k.val < 64 by omega)]
    pointwise
    split_ifs <;> first | rfl | omega
  · repeat (first | rw [dif_neg (show ¬((_ ∧ _) ∧ (_ ∧ _)) by omega)])
    by_cases h1 : k.val < 64
    · rw [dif_pos h1]
      rw [dif_pos (by omega)]
      pointwise
    · rw [dif_neg h1, if_neg (by omega)]
      repeat (first | rw [dif_neg (by omega)])
      rw [dif_pos (by omega)]
      pointwise

/-- Expert `e`'s second layer. -/
theorem pw2r_exp (wg : Vec Ideal S64x8 .f32) (we : Vec Ideal S8x64x4 .f32) (ms : Vec Ideal S8x128 .f32) (k : Fin 584) (e : Fin 8) (q : Fin 4) :
    (pw2r wg we ms (ix2 k ⟨8 + 4 * e.val + q.val, by omega⟩) : EReal) = if h : 64 + 64 * e.val ≤ k.val ∧ k.val < 64 + 64 * e.val + 64 then we (ix3 e ⟨k.val - (64 + 64 * e.val), by omega⟩ q)
      else if k.val = 576 then ms (ix2 3 ⟨4 * e.val + q.val, by omega⟩) else 0 := by
  have hq := q.isLt
  have he := e.isLt
  have hk := k.isLt
  unfold pw2r
  simp only [canon_box]
  have hx : (⟨8 + 4 * e.val + q.val - 8, by omega⟩ : Fin 128) = ⟨4 * e.val + q.val, by omega⟩ := Fin.ext (by show 8 + 4 * e.val + q.val - 8 = 4 * e.val + q.val; omega)
  by_cases h2 : 576 ≤ k.val
  · rw [dif_pos (by omega), dif_neg (show ¬(64 + 64 * e.val ≤ k.val ∧ k.val < 64 + 64 * e.val + 64) by omega)]
    pointwise
    by_cases h6 : k.val = 576
    · rw [dif_pos (by omega), dif_neg (by omega), if_pos h6]
      exact congrArg ms (congrArg (fun x => ix2 3 x) hx)
    · rw [dif_neg (by omega), if_neg h6]
  · rw [dif_neg (by omega), if_neg (by omega)]
    by_cases h3 : 64 + 64 * e.val ≤ k.val ∧ k.val < 64 + 64 * e.val + 64
    · rw [dif_pos h3]
      fin_vals e with hv
      all_goals repeat (first | rw [dif_neg (show ¬((_ ∧ _) ∧ (_ ∧ _)) by omega)])
      all_goals rw [dif_pos (by omega)]
      all_goals pointwise
      all_goals exact congrArg we (congr (congrArg₂ ix3 (Fin.ext hv.symm) (Fin.ext (by (try dsimp only) <;> omega))) (Fin.ext (by (try dsimp only) <;> omega)))
    · rw [dif_neg h3]
      repeat (first | rw [dif_neg (show ¬((_ ∧ _) ∧ (_ ∧ _)) by omega)])
      rw [dif_pos (by omega)]
      pointwise

end Cert.KernelIdeal.Stage

end
-- ==== Proof.Kernel.Layers.lean ====
/-
  The two networks of the kernel on the packed weights: the packed layers compute the layers they are packed from.
-/
module

public import proofs.«01_k».proof.Proof.Kernel.Table

@[expose] public section

set_option maxRecDepth 16384

noncomputable section

namespace Cert.KernelIdeal.Stage

open Idealize.ShloMosaic Idealize.ShloMosaic.TcCoe Idealize.SL.Sem Cert.KernelIdeal Cert.KernelIdeal.Gen

/-- A sum whose terms vanish outside a window of 64 and one more index. -/
theorem sum_window {N : ℕ} (o : ℕ) (ho : o + 64 ≤ N) (p : Fin N) (hp : o + 64 ≤ p.val) (g : Fin N → EReal)
    (h0 : ∀ k : Fin N, ¬(o ≤ k.val ∧ k.val < o + 64) → k ≠ p → g k = 0) :
    ∑ k, g k = ∑ i : Fin 64, g ⟨o + i.val, by omega⟩ + g p := by
  classical
  let em : Fin 64 ↪ Fin N := ⟨fun i => ⟨o + i.val, by omega⟩, fun a b h => Fin.ext (by have := Fin.mk.inj h; omega)⟩
  have hm : p ∉ Finset.univ.map em := by
    simp only [Finset.mem_map, Finset.mem_univ, true_and, not_exists]
    intro i hi
    have h : o + i.val = p.val := congrArg Fin.val hi
    have := i.isLt
    omega
  rw [← Finset.sum_subset (Finset.subset_univ (insert p (Finset.univ.map em))), Finset.sum_insert hm, Finset.sum_map, add_comm]
  · rfl
  · intro k _ hk
    simp only [Finset.mem_insert, Finset.mem_map, Finset.mem_univ, true_and, not_or, not_exists] at hk
    refine h0 k (fun h => hk.2 ⟨k.val - o, by omega⟩ (Fin.ext ?_)) hk.1
    show o + (k.val - o) = k.val
    omega

/-- One packed column times the features: the column's three weights and its bias. -/
theorem hid3 (f : FVec Ideal S8x8192 .bf16) (n : Fin 8192) (h7 : f (ix2 7 n) = (1 : EReal)) (w : Fin 8 → EReal) (v : Fin 3 → EReal) (b : EReal)
    (hw : ∀ j, w j = if j.val = 7 then b else if h : j.val < 3 then v ⟨j.val, h⟩ else 0) :
    ∑ j, w j * (f (ix2 j n) : EReal) = ∑ j : Fin 3, (f (ix2 ⟨j.val, by omega⟩ n) : EReal) * v j + b := by
  simp only [hw, Fin.sum_univ_eight, Fin.sum_univ_three]
  simp [h7, mul_comm]

/-- One packed column times the features: the column's six weights and its bias. -/
theorem hid6 (f : FVec Ideal S8x8192 .bf16) (n : Fin 8192) (h7 : f (ix2 7 n) = (1 : EReal)) (w : Fin 8 → EReal) (v : Fin 6 → EReal) (b : EReal)
    (hw : ∀ j, w j = if j.val = 7 then b else if h : j.val < 6 then v ⟨j.val, h⟩ else 0) :
    ∑ j, w j * (f (ix2 j n) : EReal) = ∑ j : Fin 6, (f (ix2 ⟨j.val, by omega⟩ n) : EReal) * v j + b := by
  simp only [hw, Fin.sum_univ_eight, Fin.sum_univ_six]
  simp [h7, mul_comm]

/-- The unit column times the features. -/
theorem hid1 (f : FVec Ideal S8x8192 .bf16) (n : Fin 8192) (h7 : f (ix2 7 n) = (1 : EReal)) (w : Fin 8 → EReal)
    (hw : ∀ j, w j = if j.val = 7 then 1 else 0) : ∑ j, w j * (f (ix2 j n) : EReal) = 1 := by
  simp only [hw, Fin.sum_univ_eight]
  simp [h7]

/-- The density at a sample point of features `f`, whose row 7 is 1. -/
theorem dens_at (wd1 : Vec Ideal S3x64 .f32) (wd2 : Vec Ideal S64x1 .f32) (ms : Vec Ideal S8x128 .f32) (f : FVec Ideal S8x8192 .bf16)
    (n : Fin 8192) (h7 : f (ix2 7 n) = (1 : EReal)) :
    (dens (pw1d wd1 ms) (pw2d wd2 ms) f (ix2 0 n) : EReal)
      = ∑ k : Fin 64, max (∑ j : Fin 3, (f (ix2 ⟨j.val, by omega⟩ n) : EReal) * wd1 (ix2 j k) + ms (ix2 4 ⟨k.val, by omega⟩)) 0 * wd2 (ix2 k 0) + ms (ix2 1 0) := by
  pointwise [dens]
  rw [sum_window 0 (by decide) (64 : Fin 72) (by decide)]
  · rw [pw2d_bias, hid1 f n h7 _ (pw1d_one wd1 ms), max_eq_left zero_le_one, mul_one]
    refine congrArg (· + _) (Finset.sum_congr rfl fun k _ => ?_)
    have e : (⟨0 + k.val, by omega⟩ : Fin 72) = ⟨k.val, by omega⟩ := Fin.ext (Nat.zero_add _)
    rw [e, pw2d_unit, hid3 f n h7 _ (fun j => wd1 (ix2 j k)) _ (fun j => pw1d_unit wd1 ms j k), mul_comm]
  · intro k hk hp
    have : 64 < k.val := by
      have : k.val ≠ 64 := fun h => hp (Fin.ext h)
      omega
    rw [pw2d_zero _ _ _ this, zero_mul]

/-- Logit `e` of the gate at a sample point. -/
theorem gate_at (wg1 : Vec Ideal S6x64 .f32) (we1 : Vec Ideal S8x6x64 .f32) (be1 : Vec Ideal S8x64 .f32) (wg2 : Vec Ideal S64x8 .f32)
    (we2 : Vec Ideal S8x64x4 .f32) (ms : Vec Ideal S8x128 .f32) (f : FVec Ideal S8x8192 .bf16)
    (n : Fin 8192) (h7 : f (ix2 7 n) = (1 : EReal)) (e : Fin 8) :
    (outr (pw1r wg1 we1 be1 ms) (pw2r wg2 we2 ms) f (ix2 ⟨e.val, by omega⟩ n) : EReal)
      = ∑ k : Fin 64, max (∑ j : Fin 6, (f (ix2 ⟨j.val, by omega⟩ n) : EReal) * wg1 (ix2 j k) + ms (ix2 5 ⟨k.val, by omega⟩)) 0 * wg2 (ix2 k e) + ms (ix2 2 ⟨e.val, by omega⟩) := by
  obtain ⟨p, hp, hv⟩ : ∃ p : Fin 584, p = 576 ∧ p.val = 576 := ⟨576, rfl, rfl⟩
  have h1 : ∑ j, (pw1r wg1 we1 be1 ms (ix2 j p) : EReal) * (f (ix2 j n) : EReal) = 1 := hid1 f n h7 _ (hp ▸ pw1r_one wg1 we1 be1 ms)
  pointwise [outr]
  rw [sum_window 0 (by decide) p (by omega)]
  · rw [pw2r_gate wg2 we2 ms p, dif_neg (by omega), if_pos hv, h1, max_eq_left zero_le_one, mul_one]
    refine congrArg₂ (· + ·) (Finset.sum_congr rfl fun k _ => ?_) rfl
    have e : (⟨0 + k.val, by omega⟩ : Fin 584) = ⟨k.val, by omega⟩ := Fin.ext (Nat.zero_add _)
    rw [e, pw2r_gate, dif_pos k.isLt, hid6 f n h7 _ (fun j => wg1 (ix2 j k)) _ (fun j => pw1r_gate wg1 we1 be1 ms j k), mul_comm]
  · intro k hk hkp
    have h5 : k.val ≠ 576 := fun h => hkp (Fin.ext (h.trans hv.symm))
    rw [pw2r_gate, dif_neg (by omega), if_neg h5, zero_mul]

/-- Output `q` of expert `e` at a sample point. -/
theorem exp_at (wg1 : Vec Ideal S6x64 .f32) (we1 : Vec Ideal S8x6x64 .f32) (be1 : Vec Ideal S8x64 .f32) (wg2 : Vec Ideal S64x8 .f32)
    (we2 : Vec Ideal S8x64x4 .f32) (ms : Vec Ideal S8x128 .f32) (f : FVec Ideal S8x8192 .bf16)
    (n : Fin 8192) (h7 : f (ix2 7 n) = (1 : EReal)) (e : Fin 8) (q : Fin 4) :
    (outr (pw1r wg1 we1 be1 ms) (pw2r wg2 we2 ms) f (ix2 ⟨8 + 4 * e.val + q.val, by omega⟩ n) : EReal)
      = ∑ k : Fin 64, max (∑ j : Fin 6, (f (ix2 ⟨j.val, by omega⟩ n) : EReal) * we1 (ix3 e j k) + be1 (ix2 e k)) 0 * we2 (ix3 e k q)
        + ms (ix2 3 ⟨4 * e.val + q.val, by omega⟩) := by
  obtain ⟨p, hp, hv⟩ : ∃ p : Fin 584, p = 576 ∧ p.val = 576 := ⟨576, rfl, rfl⟩
  have h1 : ∑ j, (pw1r wg1 we1 be1 ms (ix2 j p) : EReal) * (f (ix2 j n) : EReal) = 1 := hid1 f n h7 _ (hp ▸ pw1r_one wg1 we1 be1 ms)
  pointwise [outr]
  rw [sum_window (64 + 64 * e.val) (by omega) p (by omega)]
  · rw [pw2r_exp wg2 we2 ms p, dif_neg (by omega), if_pos hv, h1, max_eq_left zero_le_one, mul_one]
    refine congrArg₂ (· + ·) (Finset.sum_congr rfl fun k _ => ?_) rfl
    rw [pw2r_exp, dif_pos ⟨Nat.le_add_right _ _, by have := k.isLt; dsimp only; omega⟩,
      hid6 f n h7 _ (fun j => we1 (ix3 e j k)) _ (fun j => pw1r_exp wg1 we1 be1 ms j e k), mul_comm]
    refine congrArg (_ * ·) (congrArg we2 (congrArg (fun x => ix3 e x q) (Fin.ext ?_)))
    exact Nat.add_sub_cancel_left _ _
  · intro k hk hkp
    have h5 : k.val ≠ 576 := fun h => hkp (Fin.ext (h.trans hv.symm))
    rw [pw2r_exp, dif_neg hk, if_neg h5, zero_mul]

end Cert.KernelIdeal.Stage

end
-- ==== Proof.Kernel.Block.lean ====
/-
  A block of 64 rays computes the pixels of the formula.
-/
module

public import proofs.«01_k».proof.Proof.Kernel.Pixels
public import proofs.«01_k».proof.Proof.Kernel.Feat
public import proofs.«01_k».proof.Proof.Kernel.Layers

@[expose] public section

set_option maxRecDepth 16384

noncomputable section

namespace Cert.KernelIdeal.Stage

open Idealize.ShloMosaic Idealize.ShloMosaic.TcCoe Idealize.SL.Sem Cert.KernelIdeal Cert.KernelIdeal.Gen

/-- A block's rows hold its rays. -/
structure IsRows (I : Moe.Ins) (R : Fin 64 → Fin 1024) (v : FVec Ideal S64x16 .f32) : Prop where
  o : ∀ r (c : Fin 3), (v (ix2 r ⟨c.val, by omega⟩) : EReal) = I.o (R r) c
  d : ∀ r (c : Fin 3), (v (ix2 r ⟨3 + c.val, by omega⟩) : EReal) = I.d (R r) c

/-- The weights and biases, as the kernel takes them. -/
structure IsWeights (I : Moe.Ins) (wd1 : Vec Ideal S3x64 .f32) (wg1 : Vec Ideal S6x64 .f32) (we1 : Vec Ideal S8x6x64 .f32) (be1 : Vec Ideal S8x64 .f32)
    (wd2 : Vec Ideal S64x1 .f32) (wg2 : Vec Ideal S64x8 .f32) (we2 : Vec Ideal S8x64x4 .f32) (ms : Vec Ideal S8x128 .f32) : Prop where
  wd1 : ∀ j n, (wd1 (ix2 j n) : EReal) = I.wd1 j n
  wg1 : ∀ j n, (wg1 (ix2 j n) : EReal) = I.wg1 j n
  we1 : ∀ e j n, (we1 (ix3 e j n) : EReal) = I.we1 e j n
  be1 : ∀ e n, (be1 (ix2 e n) : EReal) = I.be1 e n
  wd2 : ∀ n, (wd2 (ix2 n 0) : EReal) = I.wd2 n
  wg2 : ∀ n e, (wg2 (ix2 n e) : EReal) = I.wg2 n e
  we2 : ∀ e n q, (we2 (ix3 e n q) : EReal) = I.we2 e n q
  bg : ∀ c : Fin 3, (ms (ix2 0 ⟨c.val, by omega⟩) : EReal) = I.bg c
  bd2 : (ms (ix2 1 0) : EReal) = I.bd2
  bg2 : ∀ e : Fin 8, (ms (ix2 2 ⟨e.val, by omega⟩) : EReal) = I.bg2 e
  be2 : ∀ (e : Fin 8) (q : Fin 4), (ms (ix2 3 ⟨4 * e.val + q.val, by omega⟩) : EReal) = I.be2 e q
  bd1 : ∀ n : Fin 64, (ms (ix2 4 ⟨n.val, by omega⟩) : EReal) = I.bd1 n
  bg1 : ∀ n : Fin 64, (ms (ix2 5 ⟨n.val, by omega⟩) : EReal) = I.bg1 n

variable {I : Moe.Ins} {R : Fin 64 → Fin 1024} {v7 : FVec Ideal S16x64 .f32} {rr : FVec Ideal S64x16 .f32} {ss : Vec Ideal S128x8192 .bf16}
  {wd1 : Vec Ideal S3x64 .f32} {wg1 : Vec Ideal S6x64 .f32} {we1 : Vec Ideal S8x6x64 .f32} {be1 : Vec Ideal S8x64 .f32}
  {wd2 : Vec Ideal S64x1 .f32} {wg2 : Vec Ideal S64x8 .f32} {we2 : Vec Ideal S8x64x4 .f32} {ms : Vec Ideal S8x128 .f32}

/-- The density network's row. -/
theorem dens_eq (hv : IsRays I R v7) (hs : IsTable ss) (hw : IsWeights I wd1 wg1 we1 be1 wd2 wg2 we2 ms) (r : Fin 64) (l : Fin 128) :
    (dens (pw1d wd1 ms) (pw2d wd2 ms) (feat v7 ss) (ix2 0 ⟨r.val * 128 + l.val, by omega⟩) : EReal) = Moe.dns I (R r) l := by
  rw [dens_at wd1 wd2 ms (feat v7 ss) _ (feat_one hs r l)]
  simp only [feat_pt hv hs, hw.wd1, hw.bd1, hw.wd2, hw.bd2]
  rfl

/-- The outputs of the gate and the experts. -/
theorem outr_eq (hv : IsRays I R v7) (hs : IsTable ss) (hw : IsWeights I wd1 wg1 we1 be1 wd2 wg2 we2 ms) (r : Fin 64) :
    IsOut (outr (pw1r wg1 we1 be1 ms) (pw2r wg2 we2 ms) (feat v7 ss)) r (Moe.lgt I (R r)) (Moe.raw I (R r)) where
  l l e := by
    rw [gate_at wg1 we1 be1 wg2 we2 ms (feat v7 ss) _ (feat_one hs r l) e]
    simp only [feat_ft hv hs, hw.wg1, hw.bg1, hw.wg2, hw.bg2]
    rfl
  w l e q := by
    rw [exp_at wg1 we1 be1 wg2 we2 ms (feat v7 ss) _ (feat_one hs r l) e q]
    simp only [feat_ft hv hs, hw.we1, hw.be1, hw.we2, hw.be2]
    rfl

/-- One over a direction's length. -/
theorem inv_eq (hr : IsRows I R rr) (r : Fin 64) : (inv rr (ix2 r 0) : EReal) = Ideal.div 1 (Moe.len I (R r)) := by
  pointwise [inv]
  simp only [hr.d]
  rfl

/-- One coordinate of a sample point against the box. -/
theorem inCoord_eq (o d i : FVec Ideal S64x1 .f32) (r : Fin 64) (l : Fin 128) (p : EReal)
    (h : (o (ix2 r 0) : EReal) + (d (ix2 r 0) : EReal) * (i (ix2 r 0) : EReal) * Moe.tt l = p) :
    inCoord o d i (ix2 r l) = BitVec.ofBool (decide (Moe.k 0xBF800000#32 ≤ p)) &&& BitVec.ofBool (decide (p ≤ 1)) := by
  pointwise [inCoord, dist, lane, cst]
  simp only [Moe.tt, Moe.k] at h
  rw [h]
  rfl

open Classical in
/-- Whether a sample point lies in the box. -/
theorem inb_eq (hr : IsRows I R rr) (r : Fin 64) (l : Fin 128) (x y : EReal) :
    Scalar.select (inb rr (ix2 r l)) x y = if Moe.inside I (R r) l then x else y := by
  have h := fun c : Fin 3 => Moe.mul_div_one (I.d (R r) c) (y := Moe.len I (R r)) (Moe.sqrt_add_ne _)
  have c0 := inCoord_eq (extractStridedSlice S64x1 ![0, 0] rr slices_S64x16_o0_0_S64x1) (extractStridedSlice S64x1 ![0, 3] rr slices_S64x16_o0_3_S64x1) (inv rr) r l (Moe.pt I (R r) l 0) (by
    rw [inv_eq hr]; pointwise; rw [Moe.pt, ← h, ← hr.o r 0, ← hr.d r 0]; rfl)
  have c1 := inCoord_eq (extractStridedSlice S64x1 ![0, 1] rr slices_S64x16_o0_1_S64x1) (extractStridedSlice S64x1 ![0, 4] rr slices_S64x16_o0_4_S64x1) (inv rr) r l (Moe.pt I (R r) l 1) (by
    rw [inv_eq hr]; pointwise; rw [Moe.pt, ← h, ← hr.o r 1, ← hr.d r 1]; rfl)
  have c2 := inCoord_eq (extractStridedSlice S64x1 ![0, 2] rr slices_S64x16_o0_2_S64x1) (extractStridedSlice S64x1 ![0, 5] rr slices_S64x16_o0_5_S64x1) (inv rr) r l (Moe.pt I (R r) l 2) (by
    rw [inv_eq hr]; pointwise; rw [Moe.pt, ← h, ← hr.o r 2, ← hr.d r 2]; rfl)
  show (if ((_ &&& _) &&& _) = 1#1 then x else y) = _
  rw [c0, c1, c2]
  refine if_congr ?_ rfl rfl
  unfold Moe.inside
  rw [Fin.forall_fin_succ, Fin.forall_fin_two]
  show _ ↔ (_ ∧ _) ∧ (Moe.k 0xBF800000#32 ≤ Moe.pt I (R r) l 1 ∧ Moe.pt I (R r) l 1 ≤ 1) ∧ (Moe.k 0xBF800000#32 ≤ Moe.pt I (R r) l 2 ∧ Moe.pt I (R r) l 2 ≤ 1)
  simp only [Moe.and_one, Moe.ofBool_one, and_assoc]

/-- The opacity from the density network. -/
theorem alpha0_eq (hv : IsRays I R v7) (hr : IsRows I R rr) (hs : IsTable ss) (hw : IsWeights I wd1 wg1 we1 be1 wd2 wg2 we2 ms) (r : Fin 64) (l : Fin 128) :
    (alpha0 (inb rr) (dens (pw1d wd1 ms) (pw2d wd2 ms) (feat v7 ss)) (ix2 r l) : EReal) = Moe.al0 I (R r) l := by
  have hd := dens_eq hv hs hw r l
  have hi := inb_eq hr r l (Moe.toA (Moe.dns I (R r) l)) 0
  generalize dens (pw1d wd1 ms) (pw2d wd2 ms) (feat v7 ss) = d at hd ⊢
  generalize inb rr = b at hi ⊢
  unfold alpha0
  have ht := toAlpha_at (shapeCast S64x128 (extractStridedSlice S1x64x128 ![0, 0, 0] (shapeCast S8x64x128 d shapeCasts_S8x8192_S8x64x128) slices_S8x64x128_o0_0_0_S1x64x128) shapeCasts_S1x64x128_S64x128) r l
  generalize toAlpha (F := Ideal) _ = t at ht ⊢
  revert ht
  pointwise [cst]
  intro ht
  rw [ht, hd]
  exact hi

/-- The pixels of a block. -/
theorem blk_eq (hv : IsRays I R v7) (hr : IsRows I R rr) (hs : IsTable ss) (hw : IsWeights I wd1 wg1 we1 be1 wd2 wg2 we2 ms)
    (b0 b1 b2 : FVec Ideal S1x1 .f32) (h0 : (b0 (ix2 0 0) : EReal) = I.bg 0) (h1 : (b1 (ix2 0 0) : EReal) = I.bg 1) (h2 : (b2 (ix2 0 0) : EReal) = I.bg 2)
    (r : Fin 64) (c : Fin 3) :
    (blk v7 rr ss (pw1d wd1 ms) (pw2d wd2 ms) (pw1r wg1 we1 be1 ms) (pw2r wg2 we2 ms) b0 b1 b2 (ix2 r c) : EReal) = Moe.pixel I (R r) c :=
  pixels_at (outr_eq hv hs hw r) (pmask_at _ (Moe.al0 I (R r)) r (alpha0_eq hv hr hs hw r)) b0 b1 b2 c (Moe.al I (R r)) (fun _ => rfl) I.bg h0 h1 h2

end Cert.KernelIdeal.Stage

end
-- ==== Proof.Kernel.Body.lean ====
/-
  A grid point computes the pixels of the formula for its 256 rays.
-/
module

public import proofs.«01_k».proof.Proof.Kernel.Block
public import proofs.«01_k».proof.Proof.Kernel.Point

@[expose] public section

set_option maxRecDepth 16384

noncomputable section

namespace Cert.KernelIdeal.Stage

open Idealize.ShloMosaic Idealize.ShloMosaic.TcCoe Idealize.SL.Sem Cert.KernelIdeal Cert.KernelIdeal.Gen

/-- A grid point's two copies of its 256 rays, by columns and by rows. -/
structure IsPoint (I : Moe.Ins) (R : Fin 256 → Fin 1024) (v3 : Vec Ideal S1x16x256 .f32) (v5 : Vec Ideal S1x256x16 .f32) : Prop where
  o : ∀ (c : Fin 3) n, (v3 (ix3 0 ⟨c.val, by omega⟩ n) : EReal) = I.o (R n) c
  d : ∀ (c : Fin 3) n, (v3 (ix3 0 ⟨3 + c.val, by omega⟩ n) : EReal) = I.d (R n) c
  v : ∀ (c : Fin 3) n, (v3 (ix3 0 ⟨6 + c.val, by omega⟩ n) : EReal) = I.v (R n) c
  ro : ∀ (c : Fin 3) n, (v5 (ix3 0 n ⟨c.val, by omega⟩) : EReal) = I.o (R n) c
  rd : ∀ (c : Fin 3) n, (v5 (ix3 0 n ⟨3 + c.val, by omega⟩) : EReal) = I.d (R n) c

variable {I : Moe.Ins} {R : Fin 256 → Fin 1024} {v3 : Vec Ideal S1x16x256 .f32} {v5 : Vec Ideal S1x256x16 .f32} {ss : Vec Ideal S128x8192 .bf16}
  {wd1 : Vec Ideal S3x64 .f32} {wg1 : Vec Ideal S6x64 .f32} {we1 : Vec Ideal S8x6x64 .f32} {be1 : Vec Ideal S8x64 .f32}
  {wd2 : Vec Ideal S64x1 .f32} {wg2 : Vec Ideal S64x8 .f32} {we2 : Vec Ideal S8x64x4 .f32} {ms : Vec Ideal S8x128 .f32}

/-- A block's columns. -/
theorem cols (h : IsPoint I R v3 v5) (b : ℕ) (hb : b ≤ 192) (hs) :
    IsRays I (fun r => R ⟨b + r.val, by omega⟩) (extractStridedSlice S16x64 ![0, b] (shapeCast S16x256 v3 shapeCasts_S1x16x256_S16x256 : FVec Ideal S16x256 .f32) hs) where
  o c r := by pointwise; exact h.o c _
  d c r := by pointwise; exact h.d c _
  v c r := by pointwise; exact h.v c _

/-- A block's rows. -/
theorem rows (h : IsPoint I R v3 v5) (b : ℕ) (hb : b ≤ 192) (hs) :
    IsRows I (fun r => R ⟨b + r.val, by omega⟩) (extractStridedSlice S64x16 ![b, 0] (shapeCast S256x16 v5 shapeCasts_S1x256x16_S256x16 : FVec Ideal S256x16 .f32) hs) where
  o r c := by pointwise; exact h.ro c _
  d r c := by pointwise; exact h.rd c _

/-- Four blocks one above the other, read at a row. -/
theorem four_at (f0 f1 f2 f3 : FVec Ideal S64x3 .f32) (G : Fin 256 → Fin 3 → EReal)
    (h0 : ∀ (r : Fin 64) c, (f0 (ix2 r c) : EReal) = G ⟨0 + r.val, by omega⟩ c) (h1 : ∀ (r : Fin 64) c, (f1 (ix2 r c) : EReal) = G ⟨64 + r.val, by omega⟩ c)
    (h2 : ∀ (r : Fin 64) c, (f2 (ix2 r c) : EReal) = G ⟨128 + r.val, by omega⟩ c) (h3 : ∀ (r : Fin 64) c, (f3 (ix2 r c) : EReal) = G ⟨192 + r.val, by omega⟩ c)
    (n : Fin 256) (c : Fin 3) : (four f0 f1 f2 f3 (ix2 n c) : EReal) = G n c := by
  have hn := n.isLt
  have hc := c.isLt
  have e : ∀ (b : ℕ) (hb : b ≤ n.val ∧ n.val < b + 64), (⟨b + (n.val - b), by omega⟩ : Fin 256) = n := fun b hb => Fin.ext (by simp only; omega)
  unfold four
  rw [canon_box]
  split
  · rename_i h; exact (h3 _ _).trans (congrArg₂ G (e 192 h.1) rfl)
  rw [canon_box]
  split
  · rename_i h; exact (h2 _ _).trans (congrArg₂ G (e 128 h.1) rfl)
  rw [canon_box]
  split
  · rename_i h; exact (h1 _ _).trans (congrArg₂ G (e 64 h.1) rfl)
  rw [canon_box]
  split
  · rename_i h; exact (h0 _ _).trans (congrArg₂ G (e 0 h.1) rfl)
  · exfalso; omega

/-- The pixels of a grid point. -/
theorem body_eq (h : IsPoint I R v3 v5) (hs : IsTable ss) (hw : IsWeights I wd1 wg1 we1 be1 wd2 wg2 we2 ms) (n : Fin 256) (c : Fin 3) :
    (body v3 v5 ss (pw1d wd1 ms) (pw2d wd2 ms) (pw1r wg1 we1 be1 ms) (pw2r wg2 we2 ms) (entry ms 0) (entry ms 1) (entry ms 2) (ix2 n c) : EReal)
      = Moe.pixel I (R n) c :=
  four_at _ _ _ _ (fun n c => Moe.pixel I (R n) c)
    (fun r c => blk_eq (cols h 0 (by omega) _) (rows h 0 (by omega) _) hs hw _ _ _ (hw.bg 0) (hw.bg 1) (hw.bg 2) r c)
    (fun r c => blk_eq (cols h 64 (by omega) _) (rows h 64 (by omega) _) hs hw _ _ _ (hw.bg 0) (hw.bg 1) (hw.bg 2) r c)
    (fun r c => blk_eq (cols h 128 (by omega) _) (rows h 128 (by omega) _) hs hw _ _ _ (hw.bg 0) (hw.bg 1) (hw.bg 2) r c)
    (fun r c => blk_eq (cols h 192 (by omega) _) (rows h 192 (by omega) _) hs hw _ _ _ (hw.bg 0) (hw.bg 1) (hw.bg 2) r c) n c

end Cert.KernelIdeal.Stage

end
-- ==== Proof.Math.Inputs.lean ====
/- The sixteen argument arrays as the one record of inputs. -/
module

public import proofs.«01_k».proof.Proof.Spec

@[expose] public section

noncomputable section

namespace Moe

open Idealize.ShloMosaic

/-- The record of inputs of sixteen arrays. -/
def ins (a0 a1 a2 : Shape.Idx ⟨2, ![1024, 3]⟩ → EReal) (a3 : Shape.Idx ⟨1, ![3]⟩ → EReal) (a4 : Shape.Idx ⟨2, ![3, 64]⟩ → EReal)
    (a5 : Shape.Idx ⟨1, ![64]⟩ → EReal) (a6 : Shape.Idx ⟨2, ![64, 1]⟩ → EReal) (a7 : Shape.Idx ⟨1, ![1]⟩ → EReal)
    (a8 : Shape.Idx ⟨2, ![6, 64]⟩ → EReal) (a9 : Shape.Idx ⟨1, ![64]⟩ → EReal) (a10 : Shape.Idx ⟨2, ![64, 8]⟩ → EReal)
    (a11 : Shape.Idx ⟨1, ![8]⟩ → EReal) (a12 : Shape.Idx ⟨3, ![8, 6, 64]⟩ → EReal) (a13 : Shape.Idx ⟨2, ![8, 64]⟩ → EReal)
    (a14 : Shape.Idx ⟨3, ![8, 64, 4]⟩ → EReal) (a15 : Shape.Idx ⟨2, ![8, 4]⟩ → EReal) : Ins where
  o r c := a0 (ix2 r c)
  d r c := a1 (ix2 r c)
  v r c := a2 (ix2 r c)
  bg c := a3 (ix1 c)
  wd1 j n := a4 (ix2 j n)
  bd1 n := a5 (ix1 n)
  wd2 n := a6 (ix2 n 0)
  bd2 := a7 (ix1 0)
  wg1 j n := a8 (ix2 j n)
  bg1 n := a9 (ix1 n)
  wg2 n e := a10 (ix2 n e)
  bg2 e := a11 (ix1 e)
  we1 e j n := a12 (ix3 e j n)
  be1 e n := a13 (ix2 e n)
  we2 e n q := a14 (ix3 e n q)
  be2 e q := a15 (ix2 e q)

end Moe

end
-- ==== Proof.Kernel.Host.lean ====
/- What the program around the kernel hands it: the rays cut into blocks, the table of rays and distances, the matrix of small arrays. -/
module

public import proofs.«01_k».proof.Proof.Gen.KernelIdeal.Value
public import Idealize.ShloMosaic.Lib.Pointwise
public import Idealize.ShloMosaic.Lib.Claim
public import Idealize.ShloMosaic.Lib.Tactic.CleanTypes
public import proofs.«01_k».proof.Proof.Kernel.Feat
public import proofs.«01_k».proof.Proof.Kernel.Misc
public import proofs.«01_k».proof.Proof.Kernel.Body
public import proofs.«01_k».proof.Proof.Math.Inputs

@[expose] public section
set_option maxRecDepth 16384
noncomputable section
namespace Cert.KernelIdeal.Hosts
open Idealize.ShloMosaic Idealize.ShloMosaic.TcCoe Idealize.SL.Sem Cert.KernelIdeal Cert.KernelIdeal.Gen Cert.KernelIdeal.Stage
variable (m : (ℓ : Loc nD τ sig) → Buf (Elt Ideal) ℓ)

/-- The rays' array before it is cut into blocks. -/
def rays (c : Dev nD) : Vec Ideal S1024x16 .f32 :=
  concatenate S1024x16 1 [⟨S1024x3, (m (c, Proc.tc.devRef main_arg0) : Vec Ideal S1024x3 .f32)⟩,
    ⟨S1024x3, (m (c, Proc.tc.devRef main_arg1) : Vec Ideal S1024x3 .f32)⟩, ⟨S1024x3, (m (c, Proc.tc.devRef main_arg2) : Vec Ideal S1024x3 .f32)⟩,
    ⟨S1024x7, broadcastInDim S1024x7 ![] bcast_S_S1024x7 (constant (F := Ideal) S_ .f32 0x00000000#32)⟩] concatenates_S1024x3_S1024x3_S1024x3_S1024x7_S1024x16_d1

theorem v2 (c : Dev nD) : V m c main_v2 = (shapeCast S4x256x16 (rays m c) shapeCasts_S1024x16_S4x256x16 : Vec Ideal S4x256x16 .f32) := by
  unfold_abbrev_sides
  after_results
  rfl
theorem v3 (c : Dev nD) : V m c main_v3 = (transpose S4x16x256 [0, 2, 1] (shapeCast S4x256x16 (rays m c) shapeCasts_S1024x16_S4x256x16 : Vec Ideal S4x256x16 .f32) transposes_S4x256x16_S4x16x256_0_2_1 : Vec Ideal S4x16x256 .f32) := by
  unfold_abbrev_sides
  after_results
  rfl
theorem rays_o (c : Dev nD) (t : Fin 4) (n : Fin 256) (q : Fin 3) : (rays m c (ix2 ⟨t.val*256+n.val, by omega⟩ ⟨q.val, by omega⟩) : EReal) = m (c, Proc.tc.devRef main_arg0) (ix2 ⟨t.val*256+n.val, by omega⟩ q) := by
  pointwise [rays]
theorem rays_d (c : Dev nD) (t : Fin 4) (n : Fin 256) (q : Fin 3) : (rays m c (ix2 ⟨t.val*256+n.val, by omega⟩ ⟨3 + q.val, by omega⟩) : EReal) = m (c, Proc.tc.devRef main_arg1) (ix2 ⟨t.val*256+n.val, by omega⟩ q) := by
  pointwise [rays]
theorem rays_v (c : Dev nD) (t : Fin 4) (n : Fin 256) (q : Fin 3) : (rays m c (ix2 ⟨t.val*256+n.val, by omega⟩ ⟨6 + q.val, by omega⟩) : EReal) = m (c, Proc.tc.devRef main_arg2) (ix2 ⟨t.val*256+n.val, by omega⟩ q) := by
  pointwise [rays]
  rw [dif_neg (by omega), dif_neg (by omega), dif_pos (by omega)]
  exact congrArg (fun q => m (c, Proc.tc.devRef main_arg2) (ix2 ⟨t.val*256+n.val, by omega⟩ q)) (Fin.ext (by show 6 + q.val - 3 - 3 = q.val; omega))

theorem v2_at (c : Dev nD) (t : Fin 4) (n : Fin 256) (q : Fin 16) : (V m c main_v2 (ix3 t n q) : EReal) = rays m c (ix2 ⟨t.val*256+n.val, by omega⟩ q) := by
  rw [v2]
  pointwise
theorem v3_at (c : Dev nD) (t : Fin 4) (n : Fin 256) (q : Fin 16) : (V m c main_v3 (ix3 t q n) : EReal) = rays m c (ix2 ⟨t.val*256+n.val, by omega⟩ q) := by
  rw [v3]
  pointwise

theorem eq_bit (a b : ℕ) (ha : a < 2 ^ 32) (hb : b < 2 ^ 32) :
    (FloatOps.uitofp (F := Ideal) FTy.f32 (IntOp.cmpi .eq (BitVec.ofNat 32 a) (BitVec.ofNat 32 b)) : EReal) = if a = b then 1 else 0 := by
  have e : (BitVec.ofNat 32 a = BitVec.ofNat 32 b) ↔ a = b := by
    constructor
    · intro h
      have := congrArg BitVec.toNat h
      simp only [BitVec.toNat_ofNat] at this
      omega
    · intro h; rw [h]
  by_cases h : a = b
  · subst h; simp [IntOp.cmpi, FloatOps.uitofp]
  · rw [if_neg h]
    have h' : ¬ BitVec.ofNat 32 a = BitVec.ofNat 32 b := fun q => h (e.1 q)
    simp only [IntOp.cmpi, FloatOps.uitofp]
    rw [show (BitVec.ofNat 32 a == BitVec.ofNat 32 b) = false from beq_false_of_ne h']
    simp

theorem v42_own (c : Dev nD) (x r : Fin 64) (l : Fin 128) : (V m c main_v42 (ix2 ⟨x.val, by omega⟩ ⟨r.val * 128 + l.val, by omega⟩) : EReal) = if x = r then (1 : EReal) else 0 := by
  entry_read
  pointwise
  rw [eq_bit _ _ (by omega) (by omega)]
  exact if_congr (by rw [Fin.ext_iff]; omega) rfl rfl
theorem v42_dist (c : Dev nD) (x r : Fin 64) (l : Fin 128) : (V m c main_v42 (ix2 ⟨64 + x.val, by omega⟩ ⟨r.val * 128 + l.val, by omega⟩) : EReal) = if x = r then Moe.tt l else 0 := by
  entry_read
  pointwise
  rw [eq_bit _ _ (by omega) (by omega), show (r.val * 128 + l.val) % 128 = l.val by omega, ite_mul, one_mul, zero_mul]
  exact if_congr (by rw [Fin.ext_iff]; omega) rfl rfl

/-- The two index words of a scatter that starts at row `a`, column 0. -/
def words (a : BitVec 32) : IVec S2 32 :=
  concatenate S2 0 [⟨S1, broadcastInDim S1 ![] bcast_S_S1 (constantI S_ 32 a)⟩, ⟨S1, broadcastInDim S1 ![] bcast_S_S1 (constantI S_ 32 0#32)⟩]
    concatenates_S1_S1_S2_d0

theorem words_zero (a : BitVec 32) : words a (ix1 0) = a := by pointwise [words]
theorem words_one (a : BitVec 32) : words a (ix1 1) = 0#32 := by pointwise [words]

/-- The matrix of small arrays: each of six rows is written by one scatter. -/
def misc (c : Dev nD) : FVec Ideal S8x128 .f32 :=
  Host.scatter scatter_S8x128_S2_S64_0_0_01_0 (fun _ b => b)
    (Host.scatter scatter_S8x128_S2_S64_0_0_01_0 (fun _ b => b)
      (Host.scatter scatter_S8x128_S2_S32_0_0_01_0 (fun _ b => b)
        (Host.scatter scatter_S8x128_S2_S8_0_0_01_0 (fun _ b => b)
          (Host.scatter scatter_S8x128_S2_S__n_01_01_0 (fun _ b => b)
            (Host.scatter scatter_S8x128_S2_S3_0_0_01_0 (fun _ b => b)
              (broadcastInDim S8x128 ![] bcast_S_S8x128 (constant (F := Ideal) S_ FTy.f32 0#32)) (words 0#32)
              (m (c, Proc.tc.devRef main_arg3) : FVec Ideal S3 .f32))
            (words 1#32) (shapeCast S_ (m (c, Proc.tc.devRef main_arg7) : FVec Ideal S1 .f32) shapeCasts_S1_S_))
          (words 2#32) (m (c, Proc.tc.devRef main_arg11) : FVec Ideal S8 .f32))
        (words 3#32) (shapeCast S32 (m (c, Proc.tc.devRef main_arg15) : FVec Ideal S8x4 .f32) shapeCasts_S8x4_S32))
      (words 4#32) (m (c, Proc.tc.devRef main_arg5) : FVec Ideal S64 .f32))
    (words 5#32) (m (c, Proc.tc.devRef main_arg9) : FVec Ideal S64 .f32)

theorem v30 (c : Dev nD) : V m c main_v30 = misc m c := by
  entry_read
  rfl

/-- The matrix at a row and column. -/
theorem misc_at (c : Dev nD) (r : ℕ) (hr : r < 8) (b : Fin 128) (h0 : r = 0 → b.val < 3) (h2 : r = 2 → b.val < 8) (h3 : r = 3 → b.val < 32)
    (h4 : r = 4 → b.val < 64) (h5 : r = 5 → b.val < 64) :
    (misc m c (ix2 ⟨r, hr⟩ b) : EReal) =
      if h : 5 = r ∧ b.val < 64 then m (c, Proc.tc.devRef main_arg9) (ix1 ⟨b.val, h.2⟩) else
      if h : 4 = r ∧ b.val < 64 then m (c, Proc.tc.devRef main_arg5) (ix1 ⟨b.val, h.2⟩) else
      if h : 3 = r ∧ b.val < 32 then (shapeCast S32 (m (c, Proc.tc.devRef main_arg15) : FVec Ideal S8x4 .f32) shapeCasts_S8x4_S32) (ix1 ⟨b.val, h.2⟩) else
      if h : 2 = r ∧ b.val < 8 then m (c, Proc.tc.devRef main_arg11) (ix1 ⟨b.val, h.2⟩) else
      if 1 = r ∧ b.val = 0 then (shapeCast S_ (m (c, Proc.tc.devRef main_arg7) : FVec Ideal S1 .f32) shapeCasts_S1_S_) ix0 else
      if h : 0 = r ∧ b.val < 3 then m (c, Proc.tc.devRef main_arg3) (ix1 ⟨b.val, h.2⟩) else
      broadcastInDim S8x128 ![] bcast_S_S8x128 (constant (F := Ideal) S_ FTy.f32 0#32) (ix2 ⟨r, hr⟩ b) := by
  unfold misc
  rw [Misc.row_at scatter_S8x128_S2_S64_0_0_01_0 rfl rfl rfl rfl _ 5 (by rw [words_zero]; rfl) (by rw [words_one]; rfl) _ _ ⟨r, hr⟩ b (by show 5 ≠ r ∨ _; omega),
    Misc.row_at scatter_S8x128_S2_S64_0_0_01_0 rfl rfl rfl rfl _ 4 (by rw [words_zero]; rfl) (by rw [words_one]; rfl) _ _ ⟨r, hr⟩ b (by show 4 ≠ r ∨ _; omega),
    Misc.row_at scatter_S8x128_S2_S32_0_0_01_0 rfl rfl rfl rfl _ 3 (by rw [words_zero]; rfl) (by rw [words_one]; rfl) _ _ ⟨r, hr⟩ b (by show 3 ≠ r ∨ _; omega),
    Misc.row_at scatter_S8x128_S2_S8_0_0_01_0 rfl rfl rfl rfl _ 2 (by rw [words_zero]; rfl) (by rw [words_one]; rfl) _ _ ⟨r, hr⟩ b (by show 2 ≠ r ∨ _; omega),
    Misc.cell_at scatter_S8x128_S2_S__n_01_01_0 rfl rfl rfl rfl _ 1 (by rw [words_zero]; rfl) (by rw [words_one]; rfl) _ _ ⟨r, hr⟩ b,
    Misc.row_at scatter_S8x128_S2_S3_0_0_01_0 rfl rfl rfl rfl _ 0 (by rw [words_zero]; rfl) (by rw [words_one]; rfl) _ _ ⟨r, hr⟩ b (by show 0 ≠ r ∨ _; omega)]

theorem isTable (c : Dev nD) : IsTable (V m c main_v42) := ⟨v42_own m c, v42_dist m c⟩

/-- The arrays of the calculation, as the kernel is given them. -/
def ins (c : Dev nD) : Moe.Ins :=
  Moe.ins (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11))
    (m (c, Proc.tc.devRef main_arg12)) (m (c, Proc.tc.devRef main_arg13)) (m (c, Proc.tc.devRef main_arg14)) (m (c, Proc.tc.devRef main_arg15))

theorem isWeights (c : Dev nD) : IsWeights (ins m c) (V m c main_arg4) (V m c main_arg8) (V m c main_arg12) (V m c main_arg13)
    (V m c main_arg6) (V m c main_arg10) (V m c main_arg14) (V m c main_v30) where
  wd1 j n := by rw [V_main_arg4]; rfl
  wg1 j n := by rw [V_main_arg8]; rfl
  we1 e j n := by rw [V_main_arg12]; rfl
  be1 e n := by rw [V_main_arg13]; rfl
  wd2 n := by rw [V_main_arg6]; rfl
  wg2 n e := by rw [V_main_arg10]; rfl
  we2 e n q := by rw [V_main_arg14]; rfl
  bg q := by
    rw [v30]
    refine (misc_at m c 0 (by omega) ⟨q.val, by omega⟩ (fun _ => q.isLt) (by omega) (by omega) (by omega) (by omega)).trans ?_
    rw [dif_neg (by omega), dif_neg (by omega), dif_neg (by omega), dif_neg (by omega), if_neg (by omega), dif_pos ⟨rfl, q.isLt⟩]
    rfl
  bd2 := by
    rw [v30]
    refine (misc_at m c 1 (by omega) ⟨0, by omega⟩ (by omega) (by omega) (by omega) (by omega) (by omega)).trans ?_
    rw [dif_neg (by omega), dif_neg (by omega), dif_neg (by omega), dif_neg (by omega), if_pos ⟨rfl, rfl⟩]
    pointwise
    rfl
  bg2 e := by
    rw [v30]
    refine (misc_at m c 2 (by omega) ⟨e.val, by omega⟩ (by omega) (fun _ => e.isLt) (by omega) (by omega) (by omega)).trans ?_
    rw [dif_neg (by omega), dif_neg (by omega), dif_neg (by omega), dif_pos ⟨rfl, e.isLt⟩]
    rfl
  be2 e q := by
    have hl : 4 * e.val + q.val < 32 := by omega
    rw [v30]
    refine (misc_at m c 3 (by omega) ⟨4 * e.val + q.val, by omega⟩ (by omega) (by omega) (fun _ => hl) (by omega) (by omega)).trans ?_
    rw [dif_neg (by omega), dif_neg (by omega), dif_pos ⟨rfl, hl⟩]
    pointwise
    rfl
  bd1 n := by
    rw [v30]
    refine (misc_at m c 4 (by omega) ⟨n.val, by omega⟩ (by omega) (by omega) (by omega) (fun _ => n.isLt) (by omega)).trans ?_
    rw [dif_neg (by omega), dif_pos ⟨rfl, n.isLt⟩]
    rfl
  bg1 n := by
    rw [v30]
    refine (misc_at m c 5 (by omega) ⟨n.val, by omega⟩ (by omega) (by omega) (by omega) (by omega) (fun _ => n.isLt)).trans ?_
    rw [dif_pos ⟨rfl, n.isLt⟩]
    rfl

end Cert.KernelIdeal.Hosts
end
-- ==== Proof.Kernel.Final.lean ====
/- The kernel's result array, read at a pixel. -/
module

public import proofs.«01_k».proof.Proof.Kernel.Host
public import proofs.«01_k».proof.Proof.Kernel.Pack
public import proofs.«01_k».proof.Proof.Kernel.Point

@[expose] public section
set_option maxRecDepth 16384
noncomputable section
namespace Cert.KernelIdeal.Hosts
open Idealize.ShloMosaic Idealize.ShloMosaic.TcCoe Idealize.SL.Sem Cert.KernelIdeal Cert.KernelIdeal.Gen Cert.KernelIdeal.Stage Cert.KernelIdeal.Value
variable (m : (ℓ : Loc nD τ sig) → Buf (Elt Ideal) ℓ)

/-- Where the blocks of the rays lie. -/
theorem idx0 : ∀ t : Fin cfg0.N, win0_0.index t (0 : Fin 3) = t.val ∧ win0_0.index t (1 : Fin 3) = 0 ∧ win0_0.index t (2 : Fin 3) = 0 := (by decide +kernel : ∀ t : Fin grid0.N, _)
theorem idx1 : ∀ t : Fin cfg0.N, win0_1.index t (0 : Fin 3) = t.val ∧ win0_1.index t (1 : Fin 3) = 0 ∧ win0_1.index t (2 : Fin 3) = 0 := (by decide +kernel : ∀ t : Fin grid0.N, _)

/-- Every other input is handed over whole. -/
theorem idxw : ∀ t : Fin cfg0.N, (∀ a : Fin 2, win0_2.index t a = 0) ∧ (∀ a : Fin 2, win0_3.index t a = 0) ∧ (∀ a : Fin 2, win0_4.index t a = 0)
    ∧ (∀ a : Fin 3, win0_5.index t a = 0) ∧ (∀ a : Fin 2, win0_6.index t a = 0) ∧ (∀ a : Fin 2, win0_7.index t a = 0)
    ∧ (∀ a : Fin 2, win0_8.index t a = 0) ∧ (∀ a : Fin 3, win0_9.index t a = 0) ∧ (∀ a : Fin 2, win0_10.index t a = 0) :=
  (by decide +kernel : ∀ t : Fin grid0.N, _)

/-- Places of a matrix that have the same coordinates. -/
theorem place2 {α : Type} {a b : ℕ} (x : Shape.Idx ⟨2, ![a, b]⟩ → α) (i j : Shape.Idx ⟨2, ![a, b]⟩) (h0 : (i 0).val = (j 0).val) (h1 : (i 1).val = (j 1).val) :
    x i = x j := by
  refine congrArg x (funext fun q => Fin.ext ?_)
  match q with
  | ⟨0, _⟩ => exact h0
  | ⟨1, _⟩ => exact h1

/-- Places of a stack of matrices that have the same coordinates. -/
theorem place3 {α : Type} {a b c : ℕ} (x : Shape.Idx ⟨3, ![a, b, c]⟩ → α) (i j : Shape.Idx ⟨3, ![a, b, c]⟩) (h0 : (i 0).val = (j 0).val)
    (h1 : (i 1).val = (j 1).val) (h2 : (i 2).val = (j 2).val) : x i = x j := by
  refine congrArg x (funext fun q => Fin.ext ?_)
  match q with
  | ⟨0, _⟩ => exact h0
  | ⟨1, _⟩ => exact h1
  | ⟨2, _⟩ => exact h2

theorem shift (i s j : ℕ) (h : i = 0) : i * s + 1 * j = j := by subst h; omega

theorem iblk2 (c : Dev nD) (t : Fin cfg0.N) : iblk m c 2 t = V m c main_v42 :=
  funext fun j => place2 (V m c main_v42 : Shape.Idx ⟨2, ![128, 8192]⟩ → _) (((cfg0.win 2).blk t).view.emb j) j (shift _ _ _ ((idxw t).1 0)) (shift _ _ _ ((idxw t).1 1))

theorem iblk3 (c : Dev nD) (t : Fin cfg0.N) : iblk m c 3 t = V m c main_arg4 :=
  funext fun j => place2 (V m c main_arg4 : Shape.Idx ⟨2, ![3, 64]⟩ → _) (((cfg0.win 3).blk t).view.emb j) j (shift _ _ _ ((idxw t).2.1 0)) (shift _ _ _ ((idxw t).2.1 1))

theorem iblk4 (c : Dev nD) (t : Fin cfg0.N) : iblk m c 4 t = V m c main_arg8 :=
  funext fun j => place2 (V m c main_arg8 : Shape.Idx ⟨2, ![6, 64]⟩ → _) (((cfg0.win 4).blk t).view.emb j) j (shift _ _ _ ((idxw t).2.2.1 0)) (shift _ _ _ ((idxw t).2.2.1 1))

theorem iblk5 (c : Dev nD) (t : Fin cfg0.N) : iblk m c 5 t = V m c main_arg12 :=
  funext fun j => place3 (V m c main_arg12 : Shape.Idx ⟨3, ![8, 6, 64]⟩ → _) (((cfg0.win 5).blk t).view.emb j) j (shift _ _ _ ((idxw t).2.2.2.1 0)) (shift _ _ _ ((idxw t).2.2.2.1 1)) (shift _ _ _ ((idxw t).2.2.2.1 2))

theorem iblk6 (c : Dev nD) (t : Fin cfg0.N) : iblk m c 6 t = V m c main_arg13 :=
  funext fun j => place2 (V m c main_arg13 : Shape.Idx ⟨2, ![8, 64]⟩ → _) (((cfg0.win 6).blk t).view.emb j) j (shift _ _ _ ((idxw t).2.2.2.2.1 0)) (shift _ _ _ ((idxw t).2.2.2.2.1 1))

theorem iblk7 (c : Dev nD) (t : Fin cfg0.N) : iblk m c 7 t = V m c main_arg6 :=
  funext fun j => place2 (V m c main_arg6 : Shape.Idx ⟨2, ![64, 1]⟩ → _) (((cfg0.win 7).blk t).view.emb j) j (shift _ _ _ ((idxw t).2.2.2.2.2.1 0)) (shift _ _ _ ((idxw t).2.2.2.2.2.1 1))

theorem iblk8 (c : Dev nD) (t : Fin cfg0.N) : iblk m c 8 t = V m c main_arg10 :=
  funext fun j => place2 (V m c main_arg10 : Shape.Idx ⟨2, ![64, 8]⟩ → _) (((cfg0.win 8).blk t).view.emb j) j (shift _ _ _ ((idxw t).2.2.2.2.2.2.1 0)) (shift _ _ _ ((idxw t).2.2.2.2.2.2.1 1))

theorem iblk9 (c : Dev nD) (t : Fin cfg0.N) : iblk m c 9 t = V m c main_arg14 :=
  funext fun j => place3 (V m c main_arg14 : Shape.Idx ⟨3, ![8, 64, 4]⟩ → _) (((cfg0.win 9).blk t).view.emb j) j (shift _ _ _ ((idxw t).2.2.2.2.2.2.2.1 0)) (shift _ _ _ ((idxw t).2.2.2.2.2.2.2.1 1)) (shift _ _ _ ((idxw t).2.2.2.2.2.2.2.1 2))

theorem iblk10 (c : Dev nD) (t : Fin cfg0.N) : iblk m c 10 t = V m c main_v30 :=
  funext fun j => place2 (V m c main_v30 : Shape.Idx ⟨2, ![8, 128]⟩ → _) (((cfg0.win 10).blk t).view.emb j) j (shift _ _ _ ((idxw t).2.2.2.2.2.2.2.2 0)) (shift _ _ _ ((idxw t).2.2.2.2.2.2.2.2 1))

/-- A point's block of the rays. -/
theorem iblk0_at (c : Dev nD) (t : Fin cfg0.N) (q : Fin 16) (n : Fin 256) (t' : Fin 4) (ht : t'.val = t.val) :
    iblk m c 0 t (ix3 0 q n) = V m c main_v3 (ix3 t' q n) := by
  obtain ⟨e0, e1, e2⟩ := idx0 t
  refine place3 (V m c main_v3 : Shape.Idx ⟨3, ![4, 16, 256]⟩ → _) (((cfg0.win 0).blk t).view.emb (ix3 0 q n)) (ix3 t' q n) ?_ (shift _ _ _ e1) (shift _ _ _ e2)
  show win0_0.index t (0 : Fin 3) * 1 + 1 * 0 = t'.val
  omega

theorem iblk1_at (c : Dev nD) (t : Fin cfg0.N) (q : Fin 16) (n : Fin 256) (t' : Fin 4) (ht : t'.val = t.val) :
    iblk m c 1 t (ix3 0 n q) = V m c main_v2 (ix3 t' n q) := by
  obtain ⟨e0, e1, e2⟩ := idx1 t
  refine place3 (V m c main_v2 : Shape.Idx ⟨3, ![4, 256, 16]⟩ → _) (((cfg0.win 1).blk t).view.emb (ix3 0 n q)) (ix3 t' n q) ?_ (shift _ _ _ e1) (shift _ _ _ e2)
  show win0_1.index t (0 : Fin 3) * 1 + 1 * 0 = t'.val
  omega

/-- The ray that position `n` of point `t`'s block holds. -/
def ray (t : Fin 4) (n : Fin 256) : Fin 1024 := ⟨t.val * 256 + n.val, by omega⟩

theorem isPoint (c : Dev nD) (t : Fin cfg0.N) (t' : Fin 4) (ht : t'.val = t.val) :
    IsPoint (ins m c) (ray t') (iblk m c 0 t) (iblk m c 1 t) where
  o q n := by rw [iblk0_at m c t _ n t' ht]; exact (v3_at m c t' n _).trans (rays_o m c t' n q)
  d q n := by rw [iblk0_at m c t _ n t' ht]; exact (v3_at m c t' n _).trans (rays_d m c t' n q)
  v q n := by rw [iblk0_at m c t _ n t' ht]; exact (v3_at m c t' n _).trans (rays_v m c t' n q)
  ro q n := by rw [iblk1_at m c t _ n t' ht]; exact (v2_at m c t' n _).trans (rays_o m c t' n q)
  rd q n := by rw [iblk1_at m c t _ n t' ht]; exact (v2_at m c t' n _).trans (rays_d m c t' n q)

/-- The packed weights, as the first point leaves them. -/
def packed (c : Dev nD) : Vec Ideal S8x72 .bf16 × Vec Ideal S72x8 .bf16 × Vec Ideal S8x584 .bf16 × Vec Ideal S584x40 .bf16 :=
  (pw1d (V m c main_arg4) (V m c main_v30), pw2d (V m c main_arg6) (V m c main_v30),
    pw1r (V m c main_arg8) (V m c main_arg12) (V m c main_arg13) (V m c main_v30), pw2r (V m c main_arg10) (V m c main_arg14) (V m c main_v30))

/-- Every point finds and leaves the packed weights. -/
theorem packed_at (c : Dev nD) : ∀ (n : ℕ) (hn : n < cfg0.N), (outsAt0 m c n hn).2 = packed m c
  | 0, hn => by
    obtain ⟨h0, h1, h2, h3⟩ := scratch_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩)
      (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩)
      (ms0_11 ⟨0, hn⟩) (hs0_11 ⟨0, hn⟩) scM0_0 (Memref.isWhole_whole _) scM0_1 (Memref.isWhole_whole _) scM0_2 (Memref.isWhole_whole _) scM0_3 (Memref.isWhole_whole _)
      ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩)
      (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩)
    rw [outsAt0_A m c ⟨0, hn⟩ rfl, h0, h1, h2, h3]
    dsimp only
    rw [iblk3, iblk4, iblk5, iblk6, iblk7, iblk8, iblk9, iblk10]
    rfl
  | n + 1, hn => by
    have hN : cfg0.N = 4 := N_0
    rw [outsAt0_B m c ⟨n + 1, hn⟩ (by show ¬(n + 1) % 4 = 0; omega)]
    rw [show packed m c = (outsAt0 m c n (by omega)).2 from (packed_at c n (by omega)).symm]
    dsimp only
    rfl

/-- What a point writes, at any position of its block. -/
theorem out_at (c : Dev nD) (t : Fin cfg0.N) (t' : Fin 4) (ht : t'.val = t.val) (n : Fin 256) (q : Fin 3) :
    ((outsAt0 m c t.val t.isLt).1 (ix2 n q) : EReal) = Moe.pixel (ins m c) (ray t' n) q := by
  have key := body_eq (isPoint m c t t' ht) (isTable m c) (isWeights m c) n q
  refine Eq.trans (congrFun ?_ (ix2 n q)) key
  by_cases h0 : t.val % 4 = 0
  · have hp := packed_at m c t.val t.isLt
    rw [outsAt0_A m c t h0] at hp ⊢
    have h1 := congrArg Prod.fst hp
    have h2 := congrArg (fun p => p.2.1) hp
    have h3 := congrArg (fun p => p.2.2.1) hp
    have h4 := congrArg (fun p => p.2.2.2) hp
    dsimp only [packed] at h1 h2 h3 h4
    dsimp only
    rw [outA_eq, h1, h2, h3, h4, iblk2, iblk10]
  · have hp := packed_at m c (t.val - 1) (Nat.lt_of_le_of_lt (Nat.sub_le _ _) t.isLt)
    rw [outsAt0_B m c t h0]
    have h1 := congrArg Prod.fst hp
    have h2 := congrArg (fun p => p.2.1) hp
    have h3 := congrArg (fun p => p.2.2.1) hp
    have h4 := congrArg (fun p => p.2.2.2) hp
    dsimp only [packed] at h1 h2 h3 h4
    dsimp only
    rw [outB_eq, h1, h2, h3, h4, iblk2, iblk10]

/-- The kernel's result at a pixel. -/
theorem result_at (c : Dev nD) (r : Fin 1024) (q : Fin 3) : (G11 m c (ix2 r q) : EReal) = Moe.pixel (ins m c) r q := by
  have hN : cfg0.N = 4 := N_0
  have hp : pt11Of (ix2 r q) = r.val / 256 := by
    unfold pt11Of run11Of
    show 1 * (r.val / 256 - 0) + 1 * (q.val / 3 - 0) = r.val / 256
    omega
  have hl : pt11Of (ix2 r q) < cfg0.N := by rw [hp, hN]; omega
  unfold G11
  rw [dif_pos hl, ← outsAt0_sweep m c _ hl]
  have hloc : loc11Of (ix2 r q) = ix2 ⟨r.val % 256, by omega⟩ q := by
    funext a; apply Fin.ext
    match a with
    | ⟨0, _⟩ => show r.val % 256 = _; rfl
    | ⟨1, _⟩ => show q.val % 3 = q.val; omega
  rw [hloc]
  refine (out_at m c ⟨_, hl⟩ ⟨r.val / 256, by omega⟩ hp.symm ⟨r.val % 256, by omega⟩ q).trans ?_
  refine congrArg (fun r => Moe.pixel (ins m c) r q) (Fin.ext ?_)
  show r.val / 256 * 256 + r.val % 256 = r.val
  omega

end Cert.KernelIdeal.Hosts
end
-- ==== Proof.Math.Gate.lean ====
/-
  The gate: with two logits above all others, and one of them above the other, the softmax over all eight experts, cut
  to the two largest and scaled to sum to one, is the pair of logistic weights of the difference of the two logits.
-/
module

public import proofs.«01_k».proof.Proof.Math.Consts

@[expose] public section

noncomputable section

namespace Moe

open Idealize.ShloMosaic

/-- An entry that no other is above is the largest. -/
theorem top_eq (L : Fin 8 → EReal) (i : Fin 8) (h : ∀ e, L e ≤ L i) : top L = L i := by
  refine le_antisymm ?_ ?_
  · exact max_le (max_le (max_le (max_le (max_le (max_le (max_le (h 0) (h 1)) (h 2)) (h 3)) (h 4)) (h 5)) (h 6)) (h 7)
  · fin_cases i <;> simp [top]

/-- The weights, at logits with two above the others. -/
theorem wt_eq (L : Fin 8 → EReal) (p : EReal) (i j : Fin 8) (hb : L j ≠ ⊥) (hij : L j < L i) (hr : ∀ e, e ≠ i → e ≠ j → L e < L j) (e : Fin 8) :
    wt L p e = (if i = e then Ideal.logistic (L i - L j) * p else 0) + (if j = e then p - Ideal.logistic (L i - L j) * p else 0) := by
  have hne : ∀ e, e ≠ i → L e < L i := fun e he => by
    by_cases h : e = j
    · rw [h]; exact hij
    · exact (hr e he h).trans hij
  have ht : top L = L i := top_eq L i fun e => by
    by_cases h : e = i
    · rw [h]
    · exact (hne e h).le
  have hri : rest L i = ⊥ := by unfold rest; rw [ht, if_pos rfl]
  have hre : ∀ e, e ≠ i → rest L e = L e := fun e he => by unfold rest; rw [ht, if_neg (hne e he).ne]
  have hji : j ≠ i := fun h => by rw [h] at hij; exact lt_irrefl _ hij
  have htr : top (rest L) = L j := by
    rw [← hre j hji]
    refine top_eq _ j fun e => ?_
    rw [hre j hji]
    by_cases h : e = i
    · rw [h, hri]; exact bot_le
    · rw [hre e h]
      by_cases h' : e = j
      · rw [h']
      · exact (hr e h h').le
  have h1 : (L e = top L) ↔ i = e := by
    rw [ht]
    exact ⟨fun h => by by_contra hc; exact (hne e (Ne.symm hc)).ne h, fun h => by rw [h]⟩
  have h2 : (rest L e = top (rest L)) ↔ j = e := by
    rw [htr]
    constructor
    · intro h
      by_contra hc
      by_cases he : e = i
      · rw [he, hri] at h; exact hb h.symm
      · rw [hre e he] at h; exact (hr e he (Ne.symm hc)).ne h
    · rintro rfl; exact hre j hji
  unfold wt
  rw [htr, ht] at *
  exact congrArg₂ (· + ·) (if_congr h1 rfl rfl) (if_congr h2 rfl rfl)

/-- The softmax of eight logits, started from the least value. -/
def soft (L : Fin 8 → EReal) (e : Fin 8) : EReal :=
  Ideal.div (Ideal.exp (L e - max (k 0xFF800000#32) (Finset.univ.fold max (k 0xFF800000#32) L)))
    (∑ e', Ideal.exp (L e' - max (k 0xFF800000#32) (Finset.univ.fold max (k 0xFF800000#32) L)))

/-- The fold is the largest entry. -/
theorem fold_eq (L : Fin 8 → EReal) (i : Fin 8) (h : ∀ e, L e ≤ L i) :
    max (k 0xFF800000#32) (Finset.univ.fold max (k 0xFF800000#32) L) = L i := by
  rw [start_val, max_eq_right bot_le]
  refine le_antisymm ?_ ?_
  · exact (Finset.fold_max_le _).2 ⟨bot_le, fun e _ => h e⟩
  · exact (Finset.le_fold_max _).2 (Or.inr ⟨i, Finset.mem_univ _, le_rfl⟩)

/-- At real logits the softmax is the real one. -/
theorem soft_eq (L : Fin 8 → EReal) (x : Fin 8 → ℝ) (hL : ∀ e, L e = (x e : EReal)) (i : Fin 8) (h : ∀ e, x e ≤ x i) (e : Fin 8) :
    soft L e = ((Real.exp (x e - x i) / ∑ e', Real.exp (x e' - x i) : ℝ) : EReal) := by
  have hf := fold_eq L i fun e => by rw [hL, hL]; exact_mod_cast h e
  have hx : ∀ e, Ideal.exp (L e - L i) = ((Real.exp (x e - x i) : ℝ) : EReal) := fun e => by
    rw [hL, hL, ← EReal.coe_sub, Ideal.exp_coe]
  have hs : (∑ e', Ideal.exp (L e' - L i)) = ((∑ e', Real.exp (x e' - x i) : ℝ) : EReal) := by
    rw [Finset.sum_congr rfl fun e _ => hx e]
    exact (map_sum (⟨⟨fun r : ℝ => (r : EReal), EReal.coe_zero⟩, EReal.coe_add⟩ : ℝ →+ EReal) _ _).symm
  have hp : (0 : ℝ) < ∑ e', Real.exp (x e' - x i) := Finset.sum_pos (fun e _ => Real.exp_pos _) ⟨0, Finset.mem_univ _⟩
  unfold soft
  rw [hf, hs, hx, Ideal.div_coe hp.ne', ← EReal.coe_mul, mul_one_div]

/-- The softmax keeps the order of the logits. -/
theorem soft_lt (L : Fin 8 → EReal) (x : Fin 8 → ℝ) (hL : ∀ e, L e = (x e : EReal)) (i : Fin 8) (h : ∀ e, x e ≤ x i) (a b : Fin 8) (hab : L a < L b) :
    soft L a < soft L b := by
  have hp : (0 : ℝ) < ∑ e', Real.exp (x e' - x i) := Finset.sum_pos (fun e _ => Real.exp_pos _) ⟨0, Finset.mem_univ _⟩
  rw [hL, hL] at hab
  have hab' : x a < x b := by exact_mod_cast hab
  rw [soft_eq L x hL i h, soft_eq L x hL i h]
  have : Real.exp (x a - x i) / ∑ e', Real.exp (x e' - x i) < Real.exp (x b - x i) / ∑ e', Real.exp (x e' - x i) :=
    div_lt_div_of_pos_right (Real.exp_lt_exp.2 (by linarith)) hp
  exact_mod_cast this

/-- The two largest, scaled to sum to one. -/
theorem scaled (L : Fin 8 → EReal) (x : Fin 8 → ℝ) (hL : ∀ e, L e = (x e : EReal)) (i j : Fin 8) (h : ∀ e, x e ≤ x i) :
    Ideal.div (soft L i) (soft L i + soft L j) = Ideal.logistic (L i - L j)
      ∧ Ideal.div (soft L j) (soft L i + soft L j) = 1 - Ideal.logistic (L i - L j) := by
  have hp : (0 : ℝ) < ∑ e', Real.exp (x e' - x i) := Finset.sum_pos (fun e _ => Real.exp_pos _) ⟨0, Finset.mem_univ _⟩
  have hl : Ideal.logistic (L i - L j) = ((1 / (1 + Real.exp (x j - x i)) : ℝ) : EReal) := by
    have := Real.exp_pos (x j - x i)
    rw [hL, hL, ← EReal.coe_sub, Ideal.logistic, ← EReal.coe_neg, Ideal.exp_coe, neg_sub,
      show (1 : EReal) + (Real.exp (x j - x i) : EReal) = ((1 + Real.exp (x j - x i) : ℝ) : EReal) by push_cast; rfl,
      Ideal.div_coe (by positivity), one_mul]
  have hei := Real.exp_pos (x i - x i)
  have hej := Real.exp_pos (x j - x i)
  rw [soft_eq L x hL i h, soft_eq L x hL i h, ← EReal.coe_add, hl, Ideal.div_coe (by positivity), Ideal.div_coe (by positivity), ← EReal.coe_mul,
    ← EReal.coe_mul, show (1 : EReal) = ((1 : ℝ) : EReal) from rfl, ← EReal.coe_sub]
  rw [sub_self, Real.exp_zero]
  constructor
  · congr 1
    field_simp
  · congr 1
    field_simp
    ring

/-- The plain program's gate is the kernel's. -/
theorem gate_eq (L : Fin 8 → EReal) (x : Fin 8 → ℝ) (hL : ∀ e, L e = (x e : EReal)) (i j : Fin 8) (hij : L j < L i)
    (hr : ∀ e, e ≠ i → e ≠ j → L e < L j) (p : EReal) (hp : p = 0 ∨ p = 1) (e : Fin 8) :
    ((if i = e then (1 : EReal) else 0) * Ideal.div (soft L i) (soft L i + soft L j)
      + (if j = e then (1 : EReal) else 0) * Ideal.div (soft L j) (soft L i + soft L j)) * p = wt L p e := by
  have hm : ∀ e, x e ≤ x i := fun e => by
    have : L e ≤ L i := by
      by_cases h1 : e = i
      · rw [h1]
      · by_cases h2 : e = j
        · rw [h2]; exact hij.le
        · exact ((hr e h1 h2).trans hij).le
    rw [hL, hL] at this
    exact_mod_cast this
  obtain ⟨h1, h2⟩ := scaled L x hL i j hm
  rw [wt_eq L p i j (by rw [hL]; exact EReal.coe_ne_bot _) hij hr, h1, h2]
  rcases hp with rfl | rfl
  · simp
  · rw [mul_one, mul_one, ite_mul, ite_mul, one_mul, one_mul, zero_mul, zero_mul]

end Moe

end
-- ==== Proof.Math.Top.lean ====
/- The two largest of eight along the last axis, with their places, when two entries are above all others. -/
module

public import proofs.«01_k».proof.Proof.Spec
public import Idealize.ShloMosaic.Lib.SortFacts

@[expose] public section

noncomputable section

namespace Moe

open Idealize.ShloMosaic

/-- The stable sort of eight numbers, larger first. -/
def order (x : Fin 8 → EReal) : Fin 8 → Fin 8 :=
  sortedFrom fun a b => (FloatOps.cmpfTotal (F := Ideal) (φ := .f32) CmpDirection.gt (x a) (x b)) == 1#1

theorem before_eq (x : Fin 8 → EReal) :
    (fun a b => (FloatOps.cmpfTotal (F := Ideal) (φ := .f32) CmpDirection.gt (x a) (x b)) == 1#1) = fun a b => decide (x b < x a) := by
  funext a b
  show ((Ideal.cmp CmpDirection.gt.ordered (x a) (x b)) == 1#1) = _
  by_cases h : x b < x a <;> simp [Ideal.cmp, CmpDirection.ordered, h]

theorem order_sorted (x : Fin 8 → EReal) (a b : Fin 8) (h : a < b) : x (order x b) ≤ x (order x a) := by
  have := sortedFrom_noInversion (fun a b => decide (x b < x a)) (fun a b => decide (x b < x a))
    (fun a b h => by simp only [decide_eq_true_eq, decide_eq_false_iff_not, not_lt] at h ⊢; exact h.le) (fun a b h => h)
    (fun a b c h1 h2 => by simp only [decide_eq_false_iff_not, not_lt] at h1 h2 ⊢; exact h1.trans h2) a b h
  unfold order
  rw [before_eq]
  simpa using this

/-- The first two places of the sort are the two largest entries. -/
theorem order_top (x : Fin 8 → EReal) (i j : Fin 8) (hij : x j < x i) (hr : ∀ e, e ≠ i → e ≠ j → x e < x j) :
    order x 0 = i ∧ order x 1 = j := by
  have hinj : Function.Injective (order x) := sortedFrom_injective _
  have hsur : Function.Surjective (order x) := sortedFrom_surjective _
  have h0 : order x 0 = i := by
    obtain ⟨q, hq⟩ := hsur i
    by_contra hc
    have hq0 : q ≠ 0 := fun h => hc (by rw [← h, hq])
    have := order_sorted x 0 q (Fin.pos_of_ne_zero hq0)
    rw [hq] at this
    by_cases h : order x 0 = j
    · rw [h] at this; exact absurd hij (not_lt.2 this)
    · exact absurd ((hr _ hc h).trans hij) (not_lt.2 this)
  refine ⟨h0, ?_⟩
  obtain ⟨q, hq⟩ := hsur j
  by_contra hc
  have hji : j ≠ i := fun h => by rw [h] at hij; exact lt_irrefl _ hij
  have hq0 : q ≠ 0 := fun h => hji (by rw [← hq, h, h0])
  have hq1 : q ≠ 1 := fun h => hc (by rw [← h, hq])
  have := order_sorted x 1 q (by
    have a : q.val ≠ 0 := fun h => hq0 (Fin.ext h)
    have b : q.val ≠ 1 := fun h => hq1 (Fin.ext h)
    show 1 < q.val
    omega)
  rw [hq] at this
  have h1i : order x 1 ≠ i := fun h => by
    have := hinj (h.trans h0.symm)
    exact absurd this (by decide)
  exact absurd (hr _ h1i hc) (not_lt.2 this)

/-- The two largest along the last axis, read at a place. -/
theorem topK_val (v : Shape.Idx ⟨3, ![1024, 128, 8]⟩ → EReal) (h : Shape.Slices ⟨3, ![1024, 128, 8]⟩ (fun _ => 0) ⟨3, ![1024, 128, 2]⟩)
    (r : Fin 1024) (l : Fin 128) (s : Fin 2) :
    (Host.topK ⟨3, ![1024, 128, 2]⟩ 2 (FloatOps.cmpfTotal (F := Ideal) (φ := .f32) CmpDirection.gt) v h).1 (ix3 r l s)
      = v (ix3 r l (order (fun e => v (ix3 r l e)) ⟨s.val, by omega⟩))
    ∧ (Host.topK ⟨3, ![1024, 128, 2]⟩ 2 (FloatOps.cmpfTotal (F := Ideal) (φ := .f32) CmpDirection.gt) v h).2 (ix3 r l s)
      = BitVec.ofNat 32 (order (fun e => v (ix3 r l e)) ⟨s.val, by omega⟩).val := by
  have key : ∀ {α : Type} (g : Shape.Idx ⟨3, ![1024, 128, 8]⟩ → α),
      extractStridedSlice ⟨3, ![1024, 128, 2]⟩ (fun _ => 0) g h (ix3 r l s) = g (ix3 r l ⟨s.val, by omega⟩) := by
    intro α g
    refine congrArg g (funext fun a => Fin.ext ?_)
    match a with
    | ⟨0, _⟩ => exact Nat.zero_add _
    | ⟨1, _⟩ => exact Nat.zero_add _
    | ⟨2, _⟩ => exact Nat.zero_add _
  have p2 : 2 < 3 := by decide
  have hj : ∀ (k s : Fin 8), Shape.Idx.along (s := ⟨3, ![1024, 128, 8]⟩) (ix3 r l s) (⟨2, p2⟩ : Fin 3) k = ix3 r l k := by
    intro k s
    funext a
    match a with
    | ⟨0, _⟩ => rfl
    | ⟨1, _⟩ => rfl
    | ⟨2, _⟩ => rfl
  unfold Host.topK Host.sort2
  dsimp only
  rw [dif_pos (by decide)]
  refine ⟨(key _).trans ?_, (key _).trans ?_⟩
  · refine (congrArg v (hj _ _)).trans (congrArg (fun z => v (ix3 r l z)) ?_)
    exact congrFun (congrArg sortedFrom (funext fun a => funext fun b =>
      congrArg₂ (fun x y => FloatOps.cmpfTotal (F := Ideal) (φ := .f32) CmpDirection.gt (v x) (v y) == 1#1) (hj a _) (hj b _))) _
  · dsimp only
    rw [dif_pos (by decide)]
    refine (congrArg (iotaInDim ⟨3, ![1024, 128, 8]⟩ 32 ⟨2, p2⟩) (hj _ _)).trans (congrArg (fun z : Fin 8 => BitVec.ofNat 32 z.val) ?_)
    exact congrFun (congrArg sortedFrom (funext fun a => funext fun b =>
      congrArg₂ (fun x y => FloatOps.cmpfTotal (F := Ideal) (φ := .f32) CmpDirection.gt (v x) (v y) == 1#1) (hj a _) (hj b _))) _

end Moe

end
-- ==== Proof.Math.Softplus.lean ====
/- The softplus of a number that is at most 20, written with a maximum and an absolute value, is the cut-off softplus. -/
module

public import proofs.«01_k».proof.Proof.Math.Consts

@[expose] public section

noncomputable section

namespace Moe

open Idealize.ShloMosaic

/-- On the reals, with the logarithm of `1 + exp`. -/
theorem log_split (s : ℝ) : Real.log (1 + Real.exp s) = max s 0 + Real.log (1 + Real.exp (-|s|)) := by
  rcases le_total s 0 with h | h
  · rw [max_eq_right h, abs_of_nonpos h, neg_neg, zero_add]
  · rw [max_eq_left h, abs_of_nonneg h]
    have e : 1 + Real.exp s = Real.exp s * (1 + Real.exp (-s)) := by
      rw [mul_add, mul_one, ← Real.exp_add, add_neg_cancel, Real.exp_zero, add_comm]
    have h1 := Real.exp_pos (-s)
    rw [e, Real.log_mul (Real.exp_pos s).ne' (by positivity), Real.log_exp]

theorem log1p_exp (s : ℝ) : Ideal.log1p (Ideal.exp (s : EReal)) = ((Real.log (1 + Real.exp s) : ℝ) : EReal) := by
  have h1 := Real.exp_pos s
  rw [Ideal.exp_coe, Ideal.log1p, show (1 : EReal) + (Real.exp s : EReal) = ((1 + Real.exp s : ℝ) : EReal) by push_cast; rfl, Ideal.log_coe,
    if_neg (by linarith)]

/-- The softplus below its cut. -/
theorem softplus_eq (y : EReal) (s : ℝ) (hy : y = (s : EReal)) (h : y ≤ k 0x41A00000#32) :
    max y 0 + Ideal.log1p (Ideal.exp (-(max y (-y)))) = sp y := by
  have h20 : s ≤ 20 := by rw [hy, twenty] at h; exact_mod_cast h
  unfold sp
  rw [if_neg (not_lt.2 h), min_eq_left h, hy, log1p_exp, log_split]
  have ea : max (s : EReal) (-(s : EReal)) = ((|s| : ℝ) : EReal) := by
    rw [abs_eq_max_neg, ← EReal.coe_neg]
    exact (EReal.coe_strictMono.monotone.map_max).symm
  have em : max (s : EReal) 0 = ((max s 0 : ℝ) : EReal) := (EReal.coe_strictMono.monotone.map_max (a := s) (b := 0)).symm
  rw [ea, em, ← EReal.coe_neg, log1p_exp]
  push_cast
  rfl

/-- The opacity, as the plain program writes it. -/
theorem toA_eq (x y : EReal) (s : ℝ) (hx : y = x + k 0xC0800000#32) (hy : y = (s : EReal)) (h : y ≤ k 0x41A00000#32) :
    1 - Ideal.exp ((-(if y ≠ y then y else max y 0 + Ideal.log1p (Ideal.exp (-(max y (-y)))))) * k 0x3F000000#32) = toA x := by
  rw [if_neg (by simp), softplus_eq y s hy h, hx, toA, sub_eq_add_neg 0, zero_add]

end Moe

end
-- ==== Proof.Math.Feat.lean ====
/- The six features of a sample point, in two sums. -/
module

public import proofs.«01_k».proof.Proof.Spec

@[expose] public section

noncomputable section

namespace Moe

/-- The six features of a sample point, in two sums of three. -/
theorem sum_ft (r : Fin 1024) (l : Fin 128) (I : Ins) (w : Fin 6 → EReal) :
    ∑ j : Fin 6, ft I r l j * w j = ∑ x : Fin 3, pt I r l x * w ⟨x.val, by omega⟩ + ∑ x : Fin 3, I.v r x * w ⟨3 + x.val, by omega⟩ := by
  refine (Fin.sum_univ_add (f := fun j : Fin (3 + 3) => ft I r l j * w j)).trans ?_
  refine congrArg₂ (· + ·) (Finset.sum_congr rfl fun x _ => ?_) (Finset.sum_congr rfl fun x _ => ?_)
  · have : ft I r l (Fin.castAdd 3 x) = pt I r l x := dif_pos x.isLt
    rw [this]; rfl
  · have : ft I r l (Fin.natAdd 3 x) = I.v r x := by
      unfold ft
      rw [dif_neg (by show ¬3 + x.val < 3; omega)]
      exact congrArg (I.v r) (Fin.ext (by show 3 + x.val - 3 = x.val; omega))
    rw [this]; rfl

end Moe

end
-- ==== Proof.Ref.Points.lean ====
/- The plain program's sample points, densities, logits and raw expert outputs. -/
module

public import proofs.«01_k».proof.Proof.Gen.ReferenceIdeal.Run
public import proofs.«01_k».proof.Proof.Math.Inputs
public import proofs.«01_k».proof.Proof.Math.Consts
public import proofs.«01_k».proof.Proof.Math.Feat
public import Idealize.ShloMosaic.Lib.Pointwise
public import Idealize.ShloMosaic.Lib.Tactic.CleanTypes

@[expose] public section

set_option maxRecDepth 16384

noncomputable section

namespace Cert.ReferenceIdeal.Value

open Idealize.ShloMosaic Idealize.ShloMosaic.TcCoe Idealize.SL.Sem Cert.ReferenceIdeal

variable (V0 : Valuation τ sig (Elt Ideal))

/-- The arrays of the calculation, as the plain program is given them. -/
def ins : Moe.Ins :=
  Moe.ins (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14)) (V0 (Proc.devRef .tc main_arg15))

variable (r : Fin 1024) (l : Fin 128)

/-- The sample points. -/
theorem v19_at (c : Fin 3) : ((res_main_v19 V0 : FVec Ideal S1024x128x3 .f32) (ix3 r l c) : EReal) = Moe.pt (ins V0) r l c := by
  unfold res_main_v19
  clean_types
  pointwise
  rfl

/-- Whether a sample point lies in the box. -/
theorem v25_at : (res_main_v25 V0 : IVec S1024x128 1) (ix2 r l) = 1#1 ↔ Moe.inside (ins V0) r l := by
  have hv := v19_at V0 r l
  unfold res_main_v25
  revert hv
  generalize res_main_v19 V0 = x
  intro hv
  clean_types
  pointwise
  have ha : ∀ a b : BitVec 1, IntOp.andi a b = 1#1 ↔ a = 1#1 ∧ b = 1#1 := Moe.and_one
  rw [Finset.fold_op_rel_iff_and (op := IntOp.andi) (r := fun _ x => x = 1#1) (fun {_ _ _} => ha _ _) (c := 0#1)]
  simp only [hv, ha, Moe.ofBool_one, true_and, Finset.mem_univ, forall_true_left]
  rfl

/-- The density. -/
theorem v37_at : ((res_main_v37 V0 : FVec Ideal S1024x128 .f32) (ix2 r l) : EReal) = Moe.dns (ins V0) r l + Moe.k 0xC0800000#32 := by
  have hv := v19_at V0 r l
  unfold res_main_v37
  revert hv
  generalize res_main_v19 V0 = x
  intro hv
  clean_types
  pointwise
  simp only [hv]
  rfl

/-- The gate's logits. -/
theorem v100_at (e : Fin 8) : ((res_main_v100 V0 : FVec Ideal S1024x128x8 .f32) (ix3 r l e) : EReal) = Moe.lgt (ins V0) r l e := by
  have hv := v19_at V0 r l
  unfold res_main_v100 res_main_v91
  revert hv
  generalize res_main_v19 V0 = x
  intro hv
  clean_types
  pointwise
  simp only [hv]
  unfold Moe.lgt
  simp only [Moe.sum_ft]
  rfl

/-- The experts' raw outputs. -/
theorem v130_at (e : Fin 8) (q : Fin 4) : ((res_main_v130 V0 : FVec Ideal S1024x128x8x4 .f32) (ix4 r l e q) : EReal) = Moe.raw (ins V0) r l e q := by
  have hv := v19_at V0 r l
  unfold res_main_v130 res_main_v91
  revert hv
  generalize res_main_v19 V0 = x
  intro hv
  clean_types
  pointwise
  simp only [hv]
  unfold Moe.raw
  simp only [Moe.sum_ft]
  exact congrArg (· + _) (Finset.sum_congr rfl fun k _ => mul_comm _ _)

end Cert.ReferenceIdeal.Value

end
-- ==== Proof.Ref.Prod.lean ====
/- The plain program's running products: a product of 128 factors, halved seven times. -/
module

public import proofs.«01_k».proof.Proof.Gen.ReferenceIdeal.Run
public import proofs.«01_k».proof.Proof.Math.Inputs
public import proofs.«01_k».proof.Proof.Math.Consts
public import Idealize.ShloMosaic.Lib.Pointwise
public import Idealize.ShloMosaic.Lib.Tactic.CleanTypes
public import proofs.«01_k».proof.Proof.Kernel.Parts

@[expose] public section

set_option maxRecDepth 16384

noncomputable section

namespace Cert.ReferenceIdeal.Value

open Idealize.ShloMosaic Idealize.ShloMosaic.TcCoe Idealize.SL.Sem Cert.ReferenceIdeal

/-- One halving of a list of factors. -/
def halve (w : ℕ) (G : ℕ → EReal) (k : ℕ) : EReal := G k * G (w + k)

theorem prod_halve (w : ℕ) (G : ℕ → EReal) : ∏ k ∈ Finset.range w, halve w G k = ∏ k ∈ Finset.range (w + w), G k := by
  unfold halve
  rw [Finset.prod_mul_distrib, Finset.prod_range_add]

/-- Seven halvings are the product. -/
theorem halves (G : ℕ → EReal) :
    halve 1 (halve 2 (halve 4 (halve 8 (halve 16 (halve 32 (halve 64 G)))))) 0 = ∏ k ∈ Finset.range 128, G k := by
  have h := prod_halve 1 (halve 2 (halve 4 (halve 8 (halve 16 (halve 32 (halve 64 G))))))
  rw [Finset.prod_range_one] at h
  rw [h, prod_halve 2, prod_halve 4, prod_halve 8, prod_halve 16, prod_halve 32, prod_halve 64]

/-- The factors of what is left of the light after `l` opacities `a`. -/
def factor (a : Fin 128 → EReal) (l : ℕ) (k : ℕ) : EReal := if h : k < 128 then (if k < l then 1 - a ⟨k, h⟩ else 1) else 1

theorem prod_factor (a : Fin 128 → EReal) (l : ℕ) : ∏ k ∈ Finset.range 128, factor a l k = Moe.trans a l := by
  rw [← Fin.prod_univ_eq_prod_range]
  unfold Moe.trans
  refine Finset.prod_congr rfl fun k _ => ?_
  unfold factor
  rw [dif_pos k.isLt]

variable (r : Fin 1024) (l : Fin 129)

/-- One halving of an array's last axis. -/
def half (w : ℕ) (h0 : Shape.Slices ⟨3, ![1024, 129, w + w]⟩ ![0, 0, 0] ⟨3, ![1024, 129, w]⟩)
    (h1 : Shape.Slices ⟨3, ![1024, 129, w + w]⟩ ![0, 0, w] ⟨3, ![1024, 129, w]⟩) (x : FVec Ideal ⟨3, ![1024, 129, w + w]⟩ .f32) :
    FVec Ideal ⟨3, ![1024, 129, w]⟩ .f32 :=
  mulf (extractStridedSlice ⟨3, ![1024, 129, w]⟩ ![0, 0, 0] x h0) (extractStridedSlice ⟨3, ![1024, 129, w]⟩ ![0, 0, w] x h1)

theorem stage (w : ℕ) (x : FVec Ideal ⟨3, ![1024, 129, w + w]⟩ .f32) (h0 : Shape.Slices ⟨3, ![1024, 129, w + w]⟩ ![0, 0, 0] ⟨3, ![1024, 129, w]⟩)
    (h1 : Shape.Slices ⟨3, ![1024, 129, w + w]⟩ ![0, 0, w] ⟨3, ![1024, 129, w]⟩) (G : ℕ → EReal)
    (h : ∀ k : Fin (w + w), (x (ix3 r l k) : EReal) = G k.val) (k : Fin w) :
    (half w h0 h1 x (ix3 r l k) : EReal) = halve w G k.val := by
  refine congrArg₂ (fun a b : EReal => a * b) ((congrArg x (funext fun a => Fin.ext ?_)).trans (h ⟨k.val, by omega⟩))
    ((congrArg x (funext fun a => Fin.ext ?_)).trans (h ⟨w + k.val, by omega⟩))
  · match a with
    | ⟨0, _⟩ => exact Nat.zero_add _
    | ⟨1, _⟩ => exact Nat.zero_add _
    | ⟨2, _⟩ => exact Nat.zero_add _
  · match a with
    | ⟨0, _⟩ => exact Nat.zero_add _
    | ⟨1, _⟩ => exact Nat.zero_add _
    | ⟨2, _⟩ => rfl

/-- Six halvings of an array's last axis. -/
def six (x : FVec Ideal S1024x129x128 .f32) : FVec Ideal S1024x129x2 .f32 :=
  half 2 Gen.slices_S1024x129x4_S1024x129x2_0_0_0 Gen.slices_S1024x129x4_S1024x129x2_0_0_2 (
    half 4 Gen.slices_S1024x129x8_S1024x129x4_0_0_0 Gen.slices_S1024x129x8_S1024x129x4_0_0_4 (
    half 8 Gen.slices_S1024x129x16_S1024x129x8_0_0_0 Gen.slices_S1024x129x16_S1024x129x8_0_0_8 (
    half 16 Gen.slices_S1024x129x32_S1024x129x16_0_0_0 Gen.slices_S1024x129x32_S1024x129x16_0_0_16 (
    half 32 Gen.slices_S1024x129x64_S1024x129x32_0_0_0 Gen.slices_S1024x129x64_S1024x129x32_0_0_32 (
    half 64 Gen.slices_S1024x129x128_S1024x129x64_0_0_0 Gen.slices_S1024x129x128_S1024x129x64_0_0_64 x)))))

theorem six_at (x : FVec Ideal S1024x129x128 .f32) (G : ℕ → EReal) (h : ∀ k : Fin 128, (x (ix3 r l k) : EReal) = G k.val) (k : Fin 2) :
    (six x (ix3 r l k) : EReal) = halve 2 (halve 4 (halve 8 (halve 16 (halve 32 (halve 64 G))))) k.val :=
  stage r l 2 _ _ _ _ (stage r l 4 _ _ _ _ (stage r l 8 _ _ _ _ (stage r l 16 _ _ _ _ (stage r l 32 _ _ _ _ (stage r l 64 x _ _ G h))))) k

variable (V0 : Valuation τ sig (Elt Ideal))

/-- The factors of the first running product. -/
theorem v59_at (a : Fin 128 → EReal) (h : ∀ k, ((res_main_v48 V0 : FVec Ideal S1024x128 .f32) (ix2 r k) : EReal) = a k) (k : Fin 128) :
    ((res_main_v59 V0 : FVec Ideal S1024x129x128 .f32) (ix3 r l k) : EReal) = factor a l.val k.val := by
  unfold res_main_v59
  revert h
  generalize res_main_v48 V0 = x
  intro h
  clean_types
  pointwise
  rw [h, Cert.KernelIdeal.Stage.sel_slt _ _ (by omega) (by omega)]
  unfold factor
  rw [dif_pos k.isLt]
  refine if_congr Iff.rfl rfl ?_
  show (constant (F := Ideal) S_ .f32 0x3F800000#32) ix0 = (1 : EReal)
  pointwise

/-- The first running product. -/
theorem v77_at (a : Fin 128 → EReal) (h : ∀ k, ((res_main_v48 V0 : FVec Ideal S1024x128 .f32) (ix2 r k) : EReal) = a k) :
    (HMul.hMul (α := EReal) ((res_main_v77 V0 : FVec Ideal S1024x129x2 .f32) (ix3 r l 0)) ((res_main_v77 V0 : FVec Ideal S1024x129x2 .f32) (ix3 r l 1)) : EReal)
      = Moe.trans a l.val := by
  have e : ∀ k : Fin 2, ((res_main_v77 V0 : FVec Ideal S1024x129x2 .f32) (ix3 r l k) : EReal) = _ := six_at r l (res_main_v59 V0) _ (v59_at r l V0 a h)
  refine (congrArg₂ (fun x y : EReal => x * y) (e 0) (e 1)).trans ?_
  exact (halves _).trans (prod_factor a l.val)

/-- The factors of the second running product. -/
theorem v168_at (a : Fin 128 → EReal) (h : ∀ k, ((res_main_v157 V0 : FVec Ideal S1024x128 .f32) (ix2 r k) : EReal) = a k) (k : Fin 128) :
    ((res_main_v168 V0 : FVec Ideal S1024x129x128 .f32) (ix3 r l k) : EReal) = factor a l.val k.val := by
  unfold res_main_v168
  revert h
  generalize res_main_v157 V0 = x
  intro h
  clean_types
  pointwise
  rw [h, Cert.KernelIdeal.Stage.sel_slt _ _ (by omega) (by omega)]
  unfold factor
  rw [dif_pos k.isLt]
  refine if_congr Iff.rfl rfl ?_
  show (constant (F := Ideal) S_ .f32 0x3F800000#32) ix0 = (1 : EReal)
  pointwise

/-- The second running product. -/
theorem v190_at (a : Fin 128 → EReal) (h : ∀ k, ((res_main_v157 V0 : FVec Ideal S1024x128 .f32) (ix2 r k) : EReal) = a k) :
    ((res_main_v190 V0 : FVec Ideal S1024x129 .f32) (ix2 r l) : EReal) = Moe.trans a l.val := by
  have e : ∀ k : Fin 2, ((res_main_v186 V0 : FVec Ideal S1024x129x2 .f32) (ix3 r l k) : EReal) = _ :=
    six_at r l (res_main_v168 V0) _ (v168_at r l V0 a h)
  unfold res_main_v190
  revert e
  generalize res_main_v186 V0 = x
  intro e
  clean_types
  pointwise
  refine (congrArg₂ (fun x y : EReal => x * y) (e 0) (e 1)).trans ?_
  exact (halves _).trans (prod_factor a l.val)

end Cert.ReferenceIdeal.Value

end
-- ==== Proof.Ref.Alpha.lean ====
/- The plain program's opacities: from the density network, and with the small ones struck out. -/
module

public import proofs.«01_k».proof.Proof.Gen.ReferenceIdeal.Run
public import proofs.«01_k».proof.Proof.Math.Inputs
public import proofs.«01_k».proof.Proof.Math.Consts
public import proofs.«01_k».proof.Proof.Math.Softplus
public import proofs.«01_k».proof.Proof.Ref.Points
public import proofs.«01_k».proof.Proof.Ref.Prod
public import Idealize.ShloMosaic.Lib.Pointwise
public import Idealize.ShloMosaic.Lib.Tactic.CleanTypes

@[expose] public section

set_option maxRecDepth 16384

noncomputable section

namespace Cert.ReferenceIdeal.Value

open Idealize.ShloMosaic Idealize.ShloMosaic.TcCoe Idealize.SL.Sem Cert.ReferenceIdeal

variable (V0 : Valuation τ sig (Elt Ideal))

/-- The density network's outputs are real numbers whose shifted value stays below the softplus's cut. -/
def Low : Prop := ∀ r l, ∃ s : ℝ, Moe.dns (ins V0) r l + Moe.k 0xC0800000#32 = (s : EReal)
  ∧ Moe.dns (ins V0) r l + Moe.k 0xC0800000#32 ≤ Moe.k 0x41A00000#32

variable (h : Low V0) (r : Fin 1024) (l : Fin 128)

open Classical in
include h in
theorem v45_at : ((res_main_v45 V0 : FVec Ideal S1024x128 .f32) (ix2 r l) : EReal) = Moe.al0 (ins V0) r l := by
  have hv := v37_at V0 r l
  have hi := v25_at V0 r l
  unfold res_main_v45 res_main_call2_v3 res_main_call2_cst
  revert hv hi
  generalize res_main_v37 V0 = x
  generalize res_main_v25 V0 = b
  intro hv hi
  clean_types
  pointwise
  unfold Scalar.select Moe.al0
  obtain ⟨s, hs, hl⟩ := h r l
  refine (if_congr hi ?_ ?_)
  · rw [← Moe.toA_eq (Moe.dns (ins V0) r l) _ s rfl hs hl, ← hv]
    rfl
  · show (constant (F := Ideal) S_ .f32 0x00000000#32) ix0 = (0 : EReal)
    pointwise

include h in
theorem v47_at : (res_main_v47 V0 : IVec S1024x128 1) (ix2 r l) = 1#1 ↔ Moe.k 0x38D1B717#32 < Moe.al0 (ins V0) r l := by
  have hv := v45_at V0 h r l
  unfold res_main_v47
  revert hv
  generalize res_main_v45 V0 = x
  intro hv
  clean_types
  pointwise
  rw [Moe.ofBool_one, hv]

include h in
theorem v48_at : ((res_main_v48 V0 : FVec Ideal S1024x128 .f32) (ix2 r l) : EReal) = Moe.cut (Moe.al0 (ins V0) r l) := by
  have hv := v45_at V0 h r l
  have hb := v47_at V0 h r l
  unfold res_main_v48
  revert hv hb
  generalize res_main_v45 V0 = x
  generalize res_main_v47 V0 = b
  intro hv hb
  clean_types
  pointwise
  unfold Scalar.select Moe.cut
  refine (if_congr hb hv ?_)
  show (constant (F := Ideal) S_ .f32 0x00000000#32) ix0 = (0 : EReal)
  pointwise

end Cert.ReferenceIdeal.Value

end
-- ==== Proof.Ref.Weights.lean ====
/- The plain program's expert weights: the softmax of the two largest logits, masked. -/
module

public import proofs.«01_k».proof.Proof.Gen.ReferenceIdeal.Run
public import proofs.«01_k».proof.Proof.Math.Inputs
public import proofs.«01_k».proof.Proof.Math.Gate
public import proofs.«01_k».proof.Proof.Math.Top
public import proofs.«01_k».proof.Proof.Kernel.Host
public import proofs.«01_k».proof.Proof.Ref.Alpha
public import Idealize.ShloMosaic.Lib.Pointwise
public import Idealize.ShloMosaic.Lib.Tactic.CleanTypes

@[expose] public section

set_option maxRecDepth 16384

noncomputable section

namespace Cert.ReferenceIdeal.Value

open Idealize.ShloMosaic Idealize.ShloMosaic.TcCoe Idealize.SL.Sem Cert.ReferenceIdeal

variable (V0 : Valuation τ sig (Elt Ideal))

/-- A bit as a number. -/
theorem bit_at (b : BitVec 1) : (FloatOps.uitofp (F := Ideal) FTy.f32 b : EReal) = if b = 1#1 then 1 else 0 := by
  obtain rfl | rfl : b = 0#1 ∨ b = 1#1 := by revert b; decide
  · rw [if_neg (by decide)]; simp [FloatOps.uitofp]
  · rw [if_pos rfl]; simp [FloatOps.uitofp]

/-- The logits are real numbers, the largest two of them apart from each other and from the rest. -/
def Apart : Prop := ∀ r l, ∃ x : Fin 8 → ℝ, (∀ e, Moe.lgt (ins V0) r l e = (x e : EReal))
  ∧ ∃ i j, Moe.lgt (ins V0) r l j < Moe.lgt (ins V0) r l i ∧ ∀ e, e ≠ i → e ≠ j → Moe.lgt (ins V0) r l e < Moe.lgt (ins V0) r l j

variable (r : Fin 1024) (l : Fin 128)

/-- The softmax of the logits. -/
theorem v111_at (e : Fin 8) : ((res_main_v111 V0 : FVec Ideal S1024x128x8 .f32) (ix3 r l e) : EReal) = Moe.soft (Moe.lgt (ins V0) r l) e := by
  have hv := v100_at V0 r l
  unfold res_main_v111 res_main_v107
  revert hv
  generalize res_main_v100 V0 = x
  intro hv
  clean_types
  pointwise
  simp only [hv]
  rfl

variable (h : Low V0) (hg : Apart V0)

include h hg in
/-- The weights. -/
theorem v133_at (e : Fin 8) : ((res_main_v133 V0 : FVec Ideal S1024x128x8 .f32) (ix3 r l e) : EReal) = Moe.g (ins V0) r l e := by
  have hs := v111_at V0 r l
  have hi := v25_at V0 r l
  have ha := v47_at V0 h r l
  have hc := v48_at V0 h r l
  have ht := v77_at r (⟨l.val, by omega⟩ : Fin 129) V0 (fun n => Moe.cut (Moe.al0 (ins V0) r n)) (v48_at V0 h r)
  unfold res_main_v133 res_main_values
  revert hs hi ha hc ht
  generalize res_main_v111 V0 = x
  generalize res_main_v25 V0 = b
  generalize res_main_v47 V0 = a
  generalize res_main_v48 V0 = z
  generalize res_main_v77 V0 = t
  intro hs hi ha hc ht
  clean_types
  pointwise
  obtain ⟨y, hy, i, j, hij, hr⟩ := hg r l
  have hm : ∀ e, y e ≤ y i := by
    intro e
    have : Moe.lgt (ins V0) r l e ≤ Moe.lgt (ins V0) r l i := by
      by_cases e1 : e = i
      · rw [e1]
      · by_cases e2 : e = j
        · rw [e2]; exact hij.le
        · exact ((hr e e1 e2).trans hij).le
    rw [hy, hy] at this
    exact_mod_cast this
  have hS : (fun e : Fin 8 => (x (ix3 r l e) : EReal)) = Moe.soft (Moe.lgt (ins V0) r l) := funext hs
  have ho := Moe.order_top (Moe.soft (Moe.lgt (ins V0) r l)) i j (Moe.soft_lt _ y hy i hm _ _ hij)
    (fun e e1 e2 => Moe.soft_lt _ y hy i hm _ _ (hr e e1 e2))
  have k0 := Moe.topK_val x Gen.sliceFits_S1024x128x8_S1024x128x2 r l 0
  have k1 := Moe.topK_val x Gen.sliceFits_S1024x128x8_S1024x128x2 r l 1
  have o0 : Moe.order (fun e => x (ix3 r l e)) ⟨(0 : Fin 2).val, by omega⟩ = i := (congrArg (fun f => Moe.order f 0) hS).trans ho.1
  have o1 : Moe.order (fun e => x (ix3 r l e)) ⟨(1 : Fin 2).val, by omega⟩ = j := (congrArg (fun f => Moe.order f 1) hS).trans ho.2
  rw [o0] at k0
  rw [o1] at k1
  rw [hs] at k0 k1
  rw [Fin.sum_univ_two, Fin.sum_univ_two, k0.1, k0.2, k1.1, k1.2]
  rw [Cert.KernelIdeal.Hosts.eq_bit _ _ (by omega) (by omega), Cert.KernelIdeal.Hosts.eq_bit _ _ (by omega) (by omega)]
  simp only [← Fin.ext_iff]
  rw [bit_at]
  have hp : (if IntOp.andi (IntOp.andi (b (ix2 r l)) (a (ix2 r l)))
      (BitVec.ofBool (decide (Moe.k 0x38D1B717#32 < HMul.hMul (α := EReal) (z (ix2 r l)) (HMul.hMul (α := EReal)
        (t (ix3 r (⟨l.val, by omega⟩ : Fin 129) 0)) (t (ix3 r (⟨l.val, by omega⟩ : Fin 129) 1)))))) = 1#1 then (1 : EReal) else 0) = Moe.pm (ins V0) r l := by
    unfold Moe.pm
    have hand : ∀ a b : BitVec 1, IntOp.andi a b = 1#1 ↔ a = 1#1 ∧ b = 1#1 := Moe.and_one
    refine if_congr ?_ rfl rfl
    rw [hand, hand, Moe.ofBool_one, hi, ha, hc, ht]
    constructor
    · rintro ⟨⟨_, h1⟩, h2⟩
      exact ⟨h1, h2⟩
    · rintro ⟨h1, h2⟩
      refine ⟨⟨?_, h1⟩, h2⟩
      by_contra hn
      unfold Moe.al0 at h1
      rw [if_neg hn] at h1
      exact absurd Moe.thr_pos (not_lt.2 h1.le)
  refine (congrArg (fun q : EReal => _ * q) hp).trans ?_
  refine Moe.gate_eq _ y hy i j hij hr _ ?_ e
  unfold Moe.pm
  split
  · exact .inr rfl
  · exact .inl rfl

end Cert.ReferenceIdeal.Value

end
-- ==== Proof.Ref.Pixels.lean ====
/- The plain program's opacities and its pixels. -/
module

public import proofs.«01_k».proof.Proof.Gen.ReferenceIdeal.Run
public import proofs.«01_k».proof.Proof.Ref.Weights
public import Idealize.ShloMosaic.Lib.Pointwise
public import Idealize.ShloMosaic.Lib.Tactic.CleanTypes

@[expose] public section

set_option maxRecDepth 16384

noncomputable section

namespace Cert.ReferenceIdeal.Value

open Idealize.ShloMosaic Idealize.ShloMosaic.TcCoe Idealize.SL.Sem Cert.ReferenceIdeal

variable (V0 : Valuation τ sig (Elt Ideal))

/-- The experts' raw opacities are real numbers whose shifted value stays below the softplus's cut. -/
def LowRaw : Prop := ∀ r l e, ∃ s : ℝ, Moe.raw (ins V0) r l e 3 + Moe.k 0xC0800000#32 = (s : EReal)
  ∧ Moe.raw (ins V0) r l e 3 + Moe.k 0xC0800000#32 ≤ Moe.k 0x41A00000#32

variable (h : Low V0) (hg : Apart V0) (hr : LowRaw V0) (r : Fin 1024) (l : Fin 128)

include h hg hr in
/-- The opacity of a sample point. -/
theorem v157_at : ((res_main_v157 V0 : FVec Ideal S1024x128 .f32) (ix2 r l) : EReal) = Moe.al (ins V0) r l := by
  have hx := v130_at V0 r l
  have hw := v133_at V0 r l h hg
  unfold res_main_v157 res_main_call9_v3 res_main_call9_cst res_main_v148
  revert hx hw
  generalize res_main_v130 V0 = x
  generalize res_main_v133 V0 = w
  intro hx hw
  clean_types
  pointwise
  unfold Moe.al
  refine Finset.sum_congr rfl fun e _ => ?_
  obtain ⟨s, hs, hl⟩ := hr r l e
  rw [mul_comm (Moe.g (ins V0) r l e), ← Moe.toA_eq _ _ s rfl hs hl, ← hw e, ← hx e 3]
  rfl

include h hg hr in
/-- The pixel. -/
theorem v202_at (c : Fin 3) : ((val4 V0 (no_index (Proc.devRef .tc main_v202)) : FVec Ideal S1024x3 .f32) (ix2 r c) : EReal) = Moe.pixel (ins V0) r c := by
  rw [val4_main_v202]
  have hx := v130_at V0 r
  have hw := fun l => v133_at V0 r l h hg
  have ha := v157_at V0 h hg hr r
  have ht := fun l => v190_at r l V0 (Moe.al (ins V0) r) ha
  revert hx hw ha ht
  generalize res_main_v130 V0 = x
  generalize res_main_v133 V0 = w
  generalize res_main_v157 V0 = a
  generalize res_main_v190 V0 = t
  intro hx hw ha ht
  clean_types
  pointwise
  simp only [hx, hw, ha, ht]
  unfold Moe.pixel Moe.rgb
  refine congrArg₂ (· + ·) (Finset.sum_congr rfl fun l _ => congrArg (_ * ·) (Finset.sum_congr rfl fun e _ => mul_comm _ _)) rfl

end Cert.ReferenceIdeal.Value

end
-- ==== Proof.Pre.All.lean ====
/- What the precondition's folds over bits say of each entry. -/
module

public import proofs.«01_k».proof.Pre_sound
public import proofs.«01_k».proof.Proof.Math.Consts
public import Idealize.ShloMosaic.Lib.Pointwise

@[expose] public section

set_option maxRecDepth 16384

noncomputable section

namespace Cert.Pre_sound

open Idealize.ShloMosaic Idealize.ShloMosaic.TcCoe

theorem foldl_and {β : Type} (f : β → BitVec 1) (L : List β) (b : BitVec 1) (h : L.foldl (fun r n => IntOp.andi r (f n)) b = 1#1) :
    b = 1#1 ∧ ∀ n ∈ L, f n = 1#1 := by
  induction L generalizing b with
  | nil => exact ⟨h, by simp⟩
  | cons n L ih =>
    obtain ⟨h1, h2⟩ := ih _ h
    obtain ⟨h3, h4⟩ := (Moe.and_one _ _).1 h1
    exact ⟨h3, by simpa using ⟨h4, h2⟩⟩

theorem or_one (a b : BitVec 1) : IntOp.ori a b = 1#1 ↔ a = 1#1 ∨ b = 1#1 := by
  show a ||| b = 1#1 ↔ _
  revert a b; decide

theorem foldl_or {β : Type} (f : β → BitVec 1) (L : List β) (b : BitVec 1) (h : L.foldl (fun r n => IntOp.ori r (f n)) b = 1#1) :
    b = 1#1 ∨ ∃ n ∈ L, f n = 1#1 := by
  induction L generalizing b with
  | nil => exact .inl h
  | cons n L ih =>
    rcases ih _ h with h1 | ⟨m, hm, h1⟩
    · rcases (or_one _ _).1 h1 with h2 | h2
      · exact .inl h2
      · exact .inr ⟨n, by simp, h2⟩
    · exact .inr ⟨m, by simp [hm], h1⟩

variable {s t u : Shape} {axes : List (Fin s.rank)}

/-- A conjunction over axes is set only where every entry's bit is. -/
theorem all_of (x : s.Idx → BitVec 1) (c : u.Idx → BitVec 1) (h : s.ReducesTo axes t) (hu : 0 < u.numel) (j : t.Idx)
    (e : Host.reduce IntOp.andi x c h hu j = 1#1) (i : s.Idx) (hi : h.drop i = j) : x i = 1#1 := by
  have := (foldl_and _ _ _ e).2 (s.rowMajor i) (by simpa using hi)
  simpa using this

/-- A disjunction over axes is set only where some entry's bit is. -/
theorem any_of (x : s.Idx → BitVec 1) (c : u.Idx → BitVec 1) (h : s.ReducesTo axes t) (hu : 0 < u.numel) (j : t.Idx)
    (hc : c (Shape.Idx.first hu) ≠ 1#1) (e : Host.reduce IntOp.ori x c h hu j = 1#1) : ∃ i, h.drop i = j ∧ x i = 1#1 := by
  rcases foldl_or _ _ _ e with h1 | ⟨n, hn, h1⟩
  · exact absurd h1 hc
  · exact ⟨_, by simpa using hn, h1⟩

/-- A conjunction over every axis. -/
theorem all_of_scalar (x : s.Idx → BitVec 1) (c : u.Idx → BitVec 1) (h : s.ReducesTo axes S_) (hu : 0 < u.numel)
    (e : Host.reduce IntOp.andi x c h hu ix0 = 1#1) (i : s.Idx) : x i = 1#1 :=
  all_of x c h hu ix0 e i (funext fun a => absurd a.isLt (Nat.not_lt_zero _))

/-- An extended real of finite size is a real number. -/
theorem real_of (x : EReal) (h : max x (-x) < ⊤) : ∃ v : ℝ, x = (v : EReal) := by
  induction x using EReal.rec with
  | bot => simp at h
  | coe v => exact ⟨v, rfl⟩
  | top => simp at h

/-- An array whose sizes are all below infinity holds real numbers. -/
theorem finite_of (x : FVec Ideal s .f32) (hb : S_.BroadcastsInDim s (![] : Fin 0 → Fin s.rank)) (c : u.Idx → BitVec 1)
    (h : s.ReducesTo axes S_) (hu : 0 < u.numel)
    (e : Host.reduce IntOp.andi (cmpf .olt (Host.absf x) (broadcastInDim s ![] hb (constant S_ .f32 0x7F800000#32))) c h hu ix0 = 1#1)
    (i : s.Idx) : ∃ v : ℝ, (x i : EReal) = (v : EReal) := by
  have e1 := all_of_scalar _ c h hu e i
  have ht : Ideal.ofBits .f32 0x7F800000#32 = ⊤ := by simp [Ideal.ofBits, Ideal.ieee]
  have e2 : BitVec.ofBool (decide (max (x i : EReal) (-(x i : EReal)) < Ideal.ofBits .f32 0x7F800000#32)) = 1#1 := e1
  rw [Moe.ofBool_one, ht] at e2
  exact real_of _ e2

end Cert.Pre_sound

end
-- ==== Proof.Pre.Gap.lean ====
/- What the precondition says of the logits: two of them apart at the top. -/
module

public import proofs.«01_k».proof.Proof.Gen.Pre_sound
public import proofs.«01_k».proof.Proof.Pre.All
public import Idealize.ShloMosaic.Lib.Tactic.CleanTypes

@[expose] public section

set_option maxRecDepth 16384

noncomputable section

namespace Cert.Pre_sound

open Idealize.ShloMosaic Idealize.ShloMosaic.TcCoe

theorem part9 (a b : IVec S_ 1) (x : IVec S1024x128x8x8 1) (c : IVec S_ 1) (hc : c (Shape.Idx.first Gen.h_S_) ≠ 1#1)
    (h : fn_part9 (F := Ideal) a b x c ix0 = 1#1) :
    a ix0 = 1#1 ∧ b ix0 = 1#1 ∧ ∀ r l, ∃ i j, x (ix4 r l i j) = 1#1 := by
  unfold fn_part9 at h
  dsimp only at h
  obtain ⟨h1, h2⟩ := (Moe.and_one _ _).1 h
  obtain ⟨h3, h4⟩ := (Moe.and_one _ _).1 h1
  refine ⟨h3, h4, fun r l => ?_⟩
  obtain ⟨i, hi, hx⟩ := any_of _ _ _ _ _ hc (all_of_scalar _ _ _ _ h2 (ix2 r l))
  refine ⟨i 2, i 3, ?_⟩
  obtain ⟨k, hk⟩ := (Shape.ReducesTo.fiber_r4_a23 Gen.reducesTo_S1024x128x8x8_S1024x128_d2_3 (ix2 r l) i).1 hi
  rw [← hk] at hx ⊢
  exact hx

theorem eq_one (a b : Fin 8) (h : IntOp.cmpi .eq (BitVec.ofNat 32 a.val) (BitVec.ofNat 32 b.val) = 1#1) : a = b := by
  revert a b; decide

theorem part8 (a b : IVec S_ 1) (x y : FVec Ideal S1024x128x8x8 .f32) (h : fn_part8 (F := Ideal) a b x y ix0 = 1#1) :
    a ix0 = 1#1 ∧ b ix0 = 1#1 ∧ ∀ r l, ∃ i j, (y (ix4 r l i j) : EReal) < x (ix4 r l i j)
      ∧ ∀ e, e ≠ i → e ≠ j → (y (ix4 r l j e) : EReal) < x (ix4 r l j e) := by
  unfold fn_part8 at h
  dsimp only at h
  obtain ⟨h1, h2, h3⟩ := part9 _ _ _ _ (by decide) h
  refine ⟨h1, h2, fun r l => ?_⟩
  obtain ⟨i, j, h4⟩ := h3 r l
  obtain ⟨h5, h6⟩ := (Moe.and_one _ _).1 h4
  refine ⟨i, j, (Moe.ofBool_one _).1 h5, fun e hi hj => ?_⟩
  have h7 := all_of _ _ _ _ _ h6 (ix5 r l i j e) ((Shape.ReducesTo.fiber_r5_a4 Gen.reducesTo_S1024x128x8x8x8_S1024x128x8x8_d4 _ _).2 ⟨e, rfl⟩)
  rcases (or_one _ _).1 h7 with h8 | h8
  · revert h8
    pointwise
    intro h8
    exact (Moe.ofBool_one _).1 h8
  · revert h8
    pointwise
    intro h8
    rcases (or_one _ _).1 h8 with h9 | h9
    · exact absurd (eq_one _ _ h9) hi
    · exact absurd (eq_one _ _ h9) hj

end Cert.Pre_sound

end
-- ==== Proof.Pre.Nets.lean ====
/- What the precondition says of the networks' outputs. -/
module

public import proofs.«01_k».proof.Proof.Pre.Gap
public import proofs.«01_k».proof.Proof.Math.Inputs

@[expose] public section

set_option maxRecDepth 16384

noncomputable section

namespace Cert.Pre_sound

open Idealize.ShloMosaic Idealize.ShloMosaic.TcCoe

/-- The largest two of the logits `L` are apart from each other and from the rest. -/
def Apart (L : Fin 8 → EReal) : Prop := ∃ i j, L j < L i ∧ ∀ e, e ≠ i → e ≠ j → L e < L j

theorem part7 (a8 : FVec Ideal S6x64 .f32) (a9 : FVec Ideal S64 .f32) (a10 : FVec Ideal S64x8 .f32) (a11 : FVec Ideal S8 .f32)
    (a b : IVec S_ 1) (f : FVec Ideal S1024x128x6 .f32) (x : FVec Ideal S1024x128x8x4 .f32)
    (h : fn_part7 (F := Ideal) a8 a9 a10 a11 a f b x ix0 = 1#1) :
    a ix0 = 1#1 ∧ b ix0 = 1#1 ∧ (∀ r l e, (x (ix4 r l e 3) : EReal) + Moe.k 0xC0800000#32 ≤ Moe.k 0x41A00000#32)
    ∧ ∀ r l, Apart fun e => ∑ n : Fin 64, max (∑ j : Fin 6, (f (ix3 r l j) : EReal) * a8 (ix2 j n) + a9 (ix1 n)) 0 * a10 (ix2 n e) + a11 (ix1 e) := by
  unfold fn_part7 at h
  dsimp only at h
  obtain ⟨h1, h2, h3⟩ := part8 _ _ _ _ h
  obtain ⟨h4, h5⟩ := (Moe.and_one _ _).1 h2
  refine ⟨h1, h4, fun r l e => ?_, fun r l => ?_⟩
  · have h6 := all_of_scalar _ _ _ _ h5 (ix3 r l e)
    revert h6
    pointwise
    intro h6
    exact (Moe.ofBool_one _).1 h6
  · obtain ⟨i, j, h7, h8⟩ := h3 r l
    refine ⟨i, j, ?_, fun e hi hj => ?_⟩
    · revert h7
      unfold fn_relu
      pointwise
      exact id
    · have h9 := h8 e hi hj
      revert h9
      unfold fn_relu
      pointwise
      exact id

theorem part6 (a6 : FVec Ideal S64x1 .f32) (a7 : FVec Ideal S1 .f32) (a8 : FVec Ideal S6x64 .f32) (a9 : FVec Ideal S64 .f32) (a10 : FVec Ideal S64x8 .f32)
    (a11 : FVec Ideal S8 .f32) (a12 : FVec Ideal S8x6x64 .f32) (a13 : FVec Ideal S8x64 .f32) (a14 : FVec Ideal S8x64x4 .f32) (a15 : FVec Ideal S8x4 .f32)
    (a : IVec S_ 1) (f : FVec Ideal S1024x128x6 .f32) (x : FVec Ideal S1024x128x64 .f32)
    (h : fn_part6 (F := Ideal) a6 a7 a8 a9 a10 a11 a12 a13 a14 a15 a f x ix0 = 1#1) :
    a ix0 = 1#1
    ∧ (∀ r l, (∑ n : Fin 64, max (x (ix3 r l n) : EReal) 0 * a6 (ix2 n 0) + a7 (ix1 0)) + Moe.k 0xC0800000#32 ≤ Moe.k 0x41A00000#32)
    ∧ (∀ r l e, (∑ n : Fin 64, (a14 (ix3 e n 3) : EReal) * max (∑ j : Fin 6, (f (ix3 r l j) : EReal) * a12 (ix3 e j n) + a13 (ix2 e n)) 0 + a15 (ix2 e 3))
        + Moe.k 0xC0800000#32 ≤ Moe.k 0x41A00000#32)
    ∧ ∀ r l, Apart fun e => ∑ n : Fin 64, max (∑ j : Fin 6, (f (ix3 r l j) : EReal) * a8 (ix2 j n) + a9 (ix1 n)) 0 * a10 (ix2 n e) + a11 (ix1 e) := by
  unfold fn_part6 at h
  dsimp only at h
  obtain ⟨h1, h2, h3, h4⟩ := part7 _ _ _ _ _ _ _ _ h
  refine ⟨h1, fun r l => ?_, fun r l e => ?_, h4⟩
  · have h6 := all_of_scalar _ _ _ _ h2 (ix2 r l)
    revert h6
    unfold fn_relu
    pointwise
    intro h6
    exact (Moe.ofBool_one _).1 h6
  · have h6 := h3 r l e
    revert h6
    unfold fn_relu_0
    pointwise
    exact id

end Cert.Pre_sound

end
-- ==== Proof.Math.Real.lean ====
/- Finite inputs give finite points, densities, logits and expert outputs. -/
module

public import proofs.«01_k».proof.Proof.Math.Consts

@[expose] public section

noncomputable section

namespace Moe

open Idealize.ShloMosaic

/-- An extended real that is a real number. -/
def R (x : EReal) : Prop := ∃ s : ℝ, x = (s : EReal)

theorem R_add {x y : EReal} (hx : R x) (hy : R y) : R (x + y) := by
  obtain ⟨a, rfl⟩ := hx; obtain ⟨b, rfl⟩ := hy; exact ⟨a + b, by push_cast; rfl⟩

theorem R_mul {x y : EReal} (hx : R x) (hy : R y) : R (x * y) := by
  obtain ⟨a, rfl⟩ := hx; obtain ⟨b, rfl⟩ := hy; exact ⟨a * b, by push_cast; rfl⟩

theorem R_max {x : EReal} (hx : R x) : R (max x 0) := by
  rcases max_choice x 0 with h | h <;> rw [h]
  · exact hx
  · exact ⟨0, rfl⟩

theorem R_sum {n : ℕ} {f : Fin n → EReal} (h : ∀ i, R (f i)) : R (∑ i, f i) :=
  Finset.sum_induction f R (fun _ _ => R_add) ⟨0, rfl⟩ fun i _ => h i

theorem R_div {x y : EReal} (hx : R x) (hy : R y) (h : y ≠ 0) : R (Ideal.div x y) := by
  obtain ⟨a, rfl⟩ := hx; obtain ⟨b, rfl⟩ := hy
  rw [Ideal.div_coe (by exact_mod_cast h)]
  exact R_mul ⟨a, rfl⟩ ⟨_, rfl⟩

/-- A layer of the networks: a rectified layer of `n` sums, then one more sum. -/
theorem R_net {n m : ℕ} {f : Fin m → EReal} {w : Fin m → Fin n → EReal} {b v : Fin n → EReal} {c : EReal} (hf : ∀ j, R (f j)) (hw : ∀ j i, R (w j i))
    (hb : ∀ i, R (b i)) (hv : ∀ i, R (v i)) (hc : R c) : R (∑ i, max (∑ j, f j * w j i + b i) 0 * v i + c) :=
  R_add (R_sum fun i => R_mul (R_max (R_add (R_sum fun j => R_mul (hf j) (hw j i)) (hb i))) (hv i)) hc

/-- Every input is a real number. -/
structure Finite (I : Ins) : Prop where
  o : ∀ r c, R (I.o r c)
  d : ∀ r c, R (I.d r c)
  v : ∀ r c, R (I.v r c)
  wd1 : ∀ j n, R (I.wd1 j n)
  bd1 : ∀ n, R (I.bd1 n)
  wd2 : ∀ n, R (I.wd2 n)
  bd2 : R I.bd2
  wg1 : ∀ j n, R (I.wg1 j n)
  bg1 : ∀ n, R (I.bg1 n)
  wg2 : ∀ n e, R (I.wg2 n e)
  bg2 : ∀ e, R (I.bg2 e)
  we1 : ∀ e j n, R (I.we1 e j n)
  be1 : ∀ e n, R (I.be1 e n)
  we2 : ∀ e n q, R (I.we2 e n q)
  be2 : ∀ e q, R (I.be2 e q)

variable {I : Ins} (h : Finite I) (r : Fin 1024) (l : Fin 128)

theorem R_tt : R (tt l) := by
  obtain ⟨h1, h2, h3⟩ := tt_consts
  exact R_add h1 (R_mul h2 (R_add ⟨_, rfl⟩ h3))

include h in
theorem R_len : R (len I r) := by
  obtain ⟨s, hs⟩ : R (∑ x : Fin 3, I.d r x * I.d r x) := R_sum fun x => R_mul (h.d r x) (h.d r x)
  have h0 : (0 : EReal) ≤ ∑ x : Fin 3, I.d r x * I.d r x := by
    refine Finset.sum_nonneg fun x _ => ?_
    obtain ⟨a, ha⟩ := h.d r x
    rw [ha]
    exact_mod_cast mul_self_nonneg a
  obtain ⟨e, _, he⟩ := eps_val
  unfold len
  rw [hs, Ideal.sqrt_coe, if_neg (by rw [hs] at h0; exact not_lt.2 (by exact_mod_cast h0)), he]
  exact R_add ⟨_, rfl⟩ ⟨_, rfl⟩

include h in
theorem R_pt (c : Fin 3) : R (pt I r l c) :=
  R_add (h.o r c) (R_mul (R_div (h.d r c) (R_len h r) (sqrt_add_ne _)) (R_tt l))

include h in
theorem R_ft (j : Fin 6) : R (ft I r l j) := by
  unfold ft
  split
  · exact R_pt h r l _
  · exact h.v r _

include h in
theorem R_dns : R (dns I r l) := R_net (R_pt h r l) h.wd1 h.bd1 h.wd2 h.bd2

include h in
theorem R_lgt (e : Fin 8) : R (lgt I r l e) := R_net (R_ft h r l) h.wg1 h.bg1 (fun n => h.wg2 n e) (h.bg2 e)

include h in
theorem R_raw (e : Fin 8) (q : Fin 4) : R (raw I r l e q) := R_net (R_ft h r l) (h.we1 e) (h.be1 e) (fun n => h.we2 e n q) (h.be2 e q)

end Moe

end
-- ==== Proof.Pre.Sound.lean ====
/- What the precondition says of the inputs: they are real numbers, the raw densities are not too large, and the two largest logits
   are apart from each other and from the rest. -/
module

public import proofs.«01_k».proof.Proof.Pre.Nets
public import proofs.«01_k».proof.Proof.Math.Feat
public import proofs.«01_k».proof.Proof.Math.Real

@[expose] public section

set_option maxRecDepth 16384

noncomputable section

namespace Cert.Pre_sound

open Idealize.ShloMosaic Idealize.ShloMosaic.TcCoe

variable (a0 : FVec Ideal S1024x3 .f32) (a1 : FVec Ideal S1024x3 .f32) (a2 : FVec Ideal S1024x3 .f32) (a3 : FVec Ideal S3 .f32) (a4 : FVec Ideal S3x64 .f32) (a5 : FVec Ideal S64 .f32)
  (a6 : FVec Ideal S64x1 .f32) (a7 : FVec Ideal S1 .f32) (a8 : FVec Ideal S6x64 .f32) (a9 : FVec Ideal S64 .f32) (a10 : FVec Ideal S64x8 .f32) (a11 : FVec Ideal S8 .f32)
  (a12 : FVec Ideal S8x6x64 .f32) (a13 : FVec Ideal S8x64 .f32) (a14 : FVec Ideal S8x64x4 .f32) (a15 : FVec Ideal S8x4 .f32)

/-- From the points on. -/
theorem part4 (a : IVec S_ 1) (x : IVec S8x64 1)
    (h : fn_part4 (F := Ideal) a0 a1 a2 a4 a5 a6 a7 a8 a9 a10 a11 a12 a13 a14 a15 a x ix0 = 1#1) :
    ((((a ix0 = 1#1 ∧ Host.reduce IntOp.andi x (constantI S_ 1 1#1) Gen.reducesTo_S8x64_S_d0_1 Gen.h_S_ ix0 = 1#1)
      ∧ ∀ i, Moe.R (a14 i)) ∧ ∀ i, Moe.R (a15 i)))
    ∧ (∀ r l, Moe.dns (Moe.ins a0 a1 a2 a3 a4 a5 a6 a7 a8 a9 a10 a11 a12 a13 a14 a15) r l + Moe.k 0xC0800000#32 ≤ Moe.k 0x41A00000#32)
    ∧ (∀ r l e, Moe.raw (Moe.ins a0 a1 a2 a3 a4 a5 a6 a7 a8 a9 a10 a11 a12 a13 a14 a15) r l e 3 + Moe.k 0xC0800000#32 ≤ Moe.k 0x41A00000#32)
    ∧ ∀ r l, Apart (Moe.lgt (Moe.ins a0 a1 a2 a3 a4 a5 a6 a7 a8 a9 a10 a11 a12 a13 a14 a15) r l) := by
  unfold fn_part4 fn_part5 fn_norm at h
  dsimp only at h
  obtain ⟨h1, h2, h3, h4⟩ := part6 _ _ _ _ _ _ _ _ _ _ _ _ _ h
  clear h
  refine ⟨?_, fun r l => ?_, fun r l e => ?_, fun r l => ?_⟩
  · obtain ⟨h5, h6⟩ := (Moe.and_one _ _).1 h1
    obtain ⟨h7, h8⟩ := (Moe.and_one _ _).1 h5
    exact ⟨⟨(Moe.and_one _ _).1 h7, finite_of _ _ _ _ _ h8⟩, finite_of _ _ _ _ _ h6⟩
  · refine Eq.mp (congrArg (fun z : EReal => z + _ ≤ _) ?_) (h2 r l)
    pointwise
    rfl
  · refine Eq.mp (congrArg (fun z : EReal => z + _ ≤ _) ?_) (h3 r l e)
    pointwise
    unfold Moe.raw
    simp only [Moe.sum_ft]
    exact congrArg (· + _) (Finset.sum_congr rfl fun k _ => mul_comm _ _)
  · refine Eq.mp (congrArg Apart (funext fun e => ?_)) (h4 r l)
    pointwise
    unfold Moe.lgt
    simp only [Moe.sum_ft]
    rfl

/-- One step of the chain of conjunctions: an array of real numbers. -/
theorem next {s : Shape} {axes : List (Fin s.rank)} (b : IVec S_ 1) (x : FVec Ideal s .f32) (hb : S_.BroadcastsInDim s (![] : Fin 0 → Fin s.rank))
    (c : IVec S_ 1) (h : s.ReducesTo axes S_) (hu : 0 < S_.numel)
    (e : andi b (Host.reduce IntOp.andi (cmpf .olt (Host.absf x) (broadcastInDim s ![] hb (constant S_ .f32 0x7F800000#32))) c h hu) ix0 = 1#1) :
    b ix0 = 1#1 ∧ ∀ i, Moe.R (x i) :=
  ⟨((Moe.and_one _ _).1 e).1, finite_of _ _ _ _ _ ((Moe.and_one _ _).1 e).2⟩

theorem sound (h : fn (F := Ideal) a0 a1 a2 a3 a4 a5 a6 a7 a8 a9 a10 a11 a12 a13 a14 a15 ix0 = 1#1) :
    Moe.Finite (Moe.ins a0 a1 a2 a3 a4 a5 a6 a7 a8 a9 a10 a11 a12 a13 a14 a15)
    ∧ (∀ r l, Moe.dns (Moe.ins a0 a1 a2 a3 a4 a5 a6 a7 a8 a9 a10 a11 a12 a13 a14 a15) r l + Moe.k 0xC0800000#32 ≤ Moe.k 0x41A00000#32)
    ∧ (∀ r l e, Moe.raw (Moe.ins a0 a1 a2 a3 a4 a5 a6 a7 a8 a9 a10 a11 a12 a13 a14 a15) r l e 3 + Moe.k 0xC0800000#32 ≤ Moe.k 0x41A00000#32)
    ∧ ∀ r l, Apart (Moe.lgt (Moe.ins a0 a1 a2 a3 a4 a5 a6 a7 a8 a9 a10 a11 a12 a13 a14 a15) r l) := by
  unfold fn fn_part1 fn_part2 fn_part3 at h
  dsimp only at h
  obtain ⟨⟨⟨⟨h0, h13⟩, f14⟩, f15⟩, hr⟩ := part4 _ _ _ a3 _ _ _ _ _ _ _ _ _ _ _ _ _ _ h
  refine ⟨?_, hr⟩
  clear h hr
  have f13 := finite_of _ _ _ _ _ h13
  obtain ⟨h0, f12⟩ := next _ _ _ _ _ _ h0
  obtain ⟨h0, f11⟩ := next _ _ _ _ _ _ h0
  obtain ⟨h0, f10⟩ := next _ _ _ _ _ _ h0
  obtain ⟨h0, f9⟩ := next _ _ _ _ _ _ h0
  obtain ⟨h0, f8⟩ := next _ _ _ _ _ _ h0
  obtain ⟨h0, f7⟩ := next _ _ _ _ _ _ h0
  obtain ⟨h0, f6⟩ := next _ _ _ _ _ _ h0
  obtain ⟨h0, f5⟩ := next _ _ _ _ _ _ h0
  obtain ⟨h0, f4⟩ := next _ _ _ _ _ _ h0
  obtain ⟨h0, f3⟩ := next _ _ _ _ _ _ h0
  obtain ⟨h0, f2⟩ := next _ _ _ _ _ _ h0
  obtain ⟨h0, f1⟩ := next _ _ _ _ _ _ h0
  obtain ⟨_, f0⟩ := next _ _ _ _ _ _ h0
  exact { o := fun r c => f0 _, d := fun r c => f1 _, v := fun r c => f2 _, wd1 := fun j n => f4 _, bd1 := fun n => f5 _, wd2 := fun n => f6 _,
          bd2 := f7 _, wg1 := fun j n => f8 _, bg1 := fun n => f9 _, wg2 := fun n e => f10 _, bg2 := fun e => f11 _, we1 := fun e j n => f12 _,
          be1 := fun e n => f13 _, we2 := fun e n q => f14 _, be2 := fun e q => f15 _ }

end Cert.Pre_sound

end
-- ==== Proof.Algebraic.lean ====
/- The value claim: on inputs satisfying the precondition, the kernel's pixels are the plain program's. -/
module

public import proofs.«01_k».proof.Defs
public import proofs.«01_k».proof.Proof.Kernel.Final
public import proofs.«01_k».proof.Proof.Ref.Pixels
public import proofs.«01_k».proof.Proof.Pre.Sound

@[expose] public section

set_option maxRecDepth 16384

noncomputable section

namespace Cert.Proof

open Idealize.ShloMosaic Idealize.ShloMosaic.TcCoe Idealize.SL.Sem Idealize.ShloMosaic.StableHlo

/-- The plain program's result on inputs satisfying the precondition. -/
theorem reference_at (V0 : Valuation Cert.ReferenceIdeal.τ Cert.ReferenceIdeal.sig (Elt Ideal)) (I : Moe.Ins) (hI : Cert.ReferenceIdeal.Value.ins V0 = I)
    (hf : Moe.Finite I)
    (hd : ∀ r l, Moe.dns I r l + Moe.k 0xC0800000#32 ≤ Moe.k 0x41A00000#32)
    (hr : ∀ r l e, Moe.raw I r l e 3 + Moe.k 0xC0800000#32 ≤ Moe.k 0x41A00000#32)
    (hg : ∀ r l, Cert.Pre_sound.Apart (Moe.lgt I r l)) (r : Fin 1024) (c : Fin 3) :
    ((Cert.ReferenceIdeal.Value.val4 V0 (no_index (Proc.devRef .tc Cert.ReferenceIdeal.main_v202)) : FVec Ideal Cert.ReferenceIdeal.S1024x3 .f32) (ix2 r c) : EReal)
      = Moe.pixel I r c := by
  subst hI
  refine Cert.ReferenceIdeal.Value.v202_at V0 (fun r l => ?_) (fun r l => ?_) (fun r l e => ?_) r c
  · obtain ⟨s, hs⟩ := Moe.R_add (Moe.R_dns hf r l) Moe.shift_val
    exact ⟨s, hs, hd r l⟩
  · have hx := fun e => Moe.R_lgt hf r l e
    choose x hx using hx
    exact ⟨x, hx, hg r l⟩
  · obtain ⟨s, hs⟩ := Moe.R_add (Moe.R_raw hf r l e 3) Moe.shift_val
    exact ⟨s, hs, hr r l e⟩

/-- Memories that agree on the arguments hold the same inputs. -/
theorem ins_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : V0 (Proc.devRef .tc Cert.ReferenceIdeal.main_arg0) = m (c, Proc.tc.devRef Cert.KernelIdeal.main_arg0))
    (h1 : V0 (Proc.devRef .tc Cert.ReferenceIdeal.main_arg1) = m (c, Proc.tc.devRef Cert.KernelIdeal.main_arg1))
    (h2 : V0 (Proc.devRef .tc Cert.ReferenceIdeal.main_arg2) = m (c, Proc.tc.devRef Cert.KernelIdeal.main_arg2))
    (h3 : V0 (Proc.devRef .tc Cert.ReferenceIdeal.main_arg3) = m (c, Proc.tc.devRef Cert.KernelIdeal.main_arg3))
    (h4 : V0 (Proc.devRef .tc Cert.ReferenceIdeal.main_arg4) = m (c, Proc.tc.devRef Cert.KernelIdeal.main_arg4))
    (h5 : V0 (Proc.devRef .tc Cert.ReferenceIdeal.main_arg5) = m (c, Proc.tc.devRef Cert.KernelIdeal.main_arg5))
    (h6 : V0 (Proc.devRef .tc Cert.ReferenceIdeal.main_arg6) = m (c, Proc.tc.devRef Cert.KernelIdeal.main_arg6))
    (h7 : V0 (Proc.devRef .tc Cert.ReferenceIdeal.main_arg7) = m (c, Proc.tc.devRef Cert.KernelIdeal.main_arg7))
    (h8 : V0 (Proc.devRef .tc Cert.ReferenceIdeal.main_arg8) = m (c, Proc.tc.devRef Cert.KernelIdeal.main_arg8))
    (h9 : V0 (Proc.devRef .tc Cert.ReferenceIdeal.main_arg9) = m (c, Proc.tc.devRef Cert.KernelIdeal.main_arg9))
    (h10 : V0 (Proc.devRef .tc Cert.ReferenceIdeal.main_arg10) = m (c, Proc.tc.devRef Cert.KernelIdeal.main_arg10))
    (h11 : V0 (Proc.devRef .tc Cert.ReferenceIdeal.main_arg11) = m (c, Proc.tc.devRef Cert.KernelIdeal.main_arg11))
    (h12 : V0 (Proc.devRef .tc Cert.ReferenceIdeal.main_arg12) = m (c, Proc.tc.devRef Cert.KernelIdeal.main_arg12))
    (h13 : V0 (Proc.devRef .tc Cert.ReferenceIdeal.main_arg13) = m (c, Proc.tc.devRef Cert.KernelIdeal.main_arg13))
    (h14 : V0 (Proc.devRef .tc Cert.ReferenceIdeal.main_arg14) = m (c, Proc.tc.devRef Cert.KernelIdeal.main_arg14))
    (h15 : V0 (Proc.devRef .tc Cert.ReferenceIdeal.main_arg15) = m (c, Proc.tc.devRef Cert.KernelIdeal.main_arg15)) :
    Cert.ReferenceIdeal.Value.ins V0 = Cert.KernelIdeal.Hosts.ins m c := by
  unfold Cert.ReferenceIdeal.Value.ins Cert.KernelIdeal.Hosts.ins
  rw [h0, h1, h2, h3, h4, h5, h6, h7, h8, h9, h10, h11, h12, h13, h14, h15]

/-- The two programs' results on the same inputs. -/
theorem result_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal)) (hI : Cert.ReferenceIdeal.Value.ins V0 = Cert.KernelIdeal.Hosts.ins m c)
    (hf : Moe.Finite (Cert.KernelIdeal.Hosts.ins m c))
    (hd : ∀ r l, Moe.dns (Cert.KernelIdeal.Hosts.ins m c) r l + Moe.k 0xC0800000#32 ≤ Moe.k 0x41A00000#32)
    (hr : ∀ r l e, Moe.raw (Cert.KernelIdeal.Hosts.ins m c) r l e 3 + Moe.k 0xC0800000#32 ≤ Moe.k 0x41A00000#32)
    (hg : ∀ r l, Cert.Pre_sound.Apart (Moe.lgt (Cert.KernelIdeal.Hosts.ins m c) r l)) :
    (Cert.ReferenceIdeal.Value.val4 V0 (no_index (Proc.devRef .tc Cert.ReferenceIdeal.main_v202)) : FVec Ideal Cert.ReferenceIdeal.S1024x3 .f32)
      = Cert.KernelIdeal.Value.G11 m c := by
  funext i
  obtain ⟨r, q, rfl⟩ : ∃ (r : Fin 1024) (q : Fin 3), i = ix2 r q := ⟨i 0, i 1, funext fun a => by match a with | ⟨0, _⟩ => rfl | ⟨1, _⟩ => rfl⟩
  exact (reference_at V0 _ hI hf hd hr hg r q).trans (Cert.KernelIdeal.Hosts.result_at m c r q).symm

theorem algebraic : Cert.algebraic_KernelIdeal_ReferenceIdeal_pre_sound := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  have hI : Cert.ReferenceIdeal.Value.ins (launchContents m' c) = Cert.KernelIdeal.Hosts.ins m c := by
    obtain ⟨h0, h1, h2, h3, h4, h5, h6, h7, h8, h9, h10, h11, h12, h13, h14, h15⟩ := hagree c
    exact ins_eq m _ c h0 h1 h2 h3 h4 h5 h6 h7 h8 h9 h10 h11 h12 h13 h14 h15
  obtain ⟨hf, hd, hr, hg⟩ := Cert.Pre_sound.sound _ _ _ _ _ _ _ _ _ _ _ _ _ _ _ _ (congrFun (hpre c) ix0)
  refine (Cert.ReferenceIdeal.Value.val4_main_v202 (launchContents m' c)).symm.trans ?_
  exact result_eq m c _ hI hf hd hr hg

end Cert.Proof

end
-- ==== Proof.lean ====
/- The claim, assembled from the facts of the programs and the named theorems of Proof/Frames.lean and Proof/Algebraic.lean. -/
module

public import proofs.«01_k».proof.Defs
public import proofs.«01_k».proof.Proof.Frames
public import proofs.«01_k».proof.Proof.Algebraic
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_sound
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_sound.Gen.facts,
    frame_p, frame_pi, fun m ρ _ => frame_pi m ρ trivial, frame_ri, fun m ρ _ => frame_ri m ρ trivial, preserves, algebraic⟩

end Cert.Proof

end
